-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_normal [hPre_scale_is_normal : Cert.Pre_scale_is_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_normal [hPre_scale_is_normal : Cert.Pre_scale_is_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_is_normal [hKernelIdeal : Cert.KernelIdeal.Facts] [hPre_scale_is_normal : Cert.Pre_scale_is_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_is_normal [hReferenceIdeal : Cert.ReferenceIdeal.Facts] [hPre_scale_is_normal : Cert.Pre_scale_is_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.sign_bit.Statement Cert.KernelIdeal.S56x256 .f32

def algebraic_KernelIdeal_ReferenceIdeal_pre_scale_is_normal [hKernelIdeal : Cert.KernelIdeal.Facts] [hReferenceIdeal : Cert.ReferenceIdeal.Facts] [hPre_scale_is_normal : Cert.Pre_scale_is_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_is_normal : Cert.Pre_scale_is_normal.Facts),
    quiescent_Kernel (hKernel := hKernel)
    ∧ quiescent_KernelIdeal (hKernelIdeal := hKernelIdeal)
    ∧ quiescent_KernelIdeal_pre_scale_is_normal (hKernelIdeal := hKernelIdeal) (hPre_scale_is_normal := hPre_scale_is_normal)
    ∧ quiescent_ReferenceIdeal (hReferenceIdeal := hReferenceIdeal)
    ∧ quiescent_ReferenceIdeal_pre_scale_is_normal (hReferenceIdeal := hReferenceIdeal) (hPre_scale_is_normal := hPre_scale_is_normal)
    ∧ preserves_Kernel_KernelIdeal
    ∧ algebraic_KernelIdeal_ReferenceIdeal_pre_scale_is_normal (hKernelIdeal := hKernelIdeal) (hReferenceIdeal := hReferenceIdeal) (hPre_scale_is_normal := hPre_scale_is_normal)
-- ==== Pre_scale_is_normal.lean ====
abbrev S4x8192x7168 : Shape := ⟨3, ![4, 8192, 7168]⟩
abbrev S7168x5120 : Shape := ⟨2, ![7168, 5120]⟩
abbrev S56x10240 : Shape := ⟨2, ![56, 10240]⟩
abbrev S10240 : Shape := ⟨1, ![10240]⟩
abbrev S_ : Shape := ⟨0, ![]⟩
abbrev S4x8192 : Shape := ⟨2, ![4, 8192]⟩

class Facts : Prop where
  bitsLt_bf16_f32 : FTy.bits .bf16 < FTy.bits .f32
  reducesTo_S4x8192x7168_S4x8192_d2 : S4x8192x7168.ReducesTo [2] S4x8192
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : FVec F S4x8192x7168 .bf16) (main_arg1 : IVec S7168x5120 8) (main_arg2 : FVec F S56x10240 .f32) (main_arg3 : FVec F S10240 .f32) : IVec S_ 1 :=
  let main_v0 : FVec F S4x8192x7168 .f32 := (extf .f32 · bitsLt_bf16_f32) main_arg0
  let main_v1 : FVec F S4x8192x7168 .f32 := Host.absf main_v0
  let main_cst : FVec F S_ .f32 := constant S_ .f32 0xFF800000#32
  let main_v2 : FVec F S4x8192 .f32 := (fun x v => Host.reduce FloatOps.maximumf x v reducesTo_S4x8192x7168_S4x8192_d2 h_S_) main_v1 main_cst
  let main_cst_0 : FVec F S_ .f32 := constant S_ .f32 0x3B124925#32
  let main_v3 : FVec F S4x8192 .f32 := broadcastInDim S4x8192 ![] bcast_S_S4x8192 main_cst_0
  let main_v4 : FVec F S4x8192 .f32 := mulf main_v2 main_v3
  let main_cst_1 : FVec F S_ .f32 := constant S_ .f32 0x00000000#32
  let main_v5 : FVec F S4x8192 .f32 := broadcastInDim S4x8192 ![] bcast_S_S4x8192 main_cst_1
  let main_v6 : IVec S4x8192 1 := cmpf .oeq main_v2 main_v5
  let main_cst_2 : FVec F S_ .f32 := constant S_ .f32 0x00800000#32
  let main_v7 : FVec F S4x8192 .f32 := broadcastInDim S4x8192 ![] bcast_S_S4x8192 main_cst_2
  let main_v8 : IVec S4x8192 1 := cmpf .oge main_v4 main_v7
  let main_cst_3 : FVec F S_ .f32 := constant S_ .f32 0x7F7F0000#32
  let main_v9 : FVec F S4x8192 .f32 := broadcastInDim S4x8192 ![] bcast_S_S4x8192 main_cst_3
  let main_v10 : IVec S4x8192 1 := cmpf .ole main_v2 main_v9
  let main_v11 : IVec S4x8192 1 := andi main_v8 main_v10
  let main_v12 : IVec S4x8192 1 := ori main_v6 main_v11
  let main_c : IVec S_ 1 := constantI S_ 1 1#1
  let main_v13 : IVec S_ 1 := (fun x v => Host.reduce IntOp.andi x v reducesTo_S4x8192_S_d0_1 h_S_) main_v12 main_c
  main_v13
-- ==== Kernel.lean ====
abbrev S4x8192x7168 : Shape := ⟨3, ![4, 8192, 7168]⟩
abbrev S7168x5120 : Shape := ⟨2, ![7168, 5120]⟩
abbrev S56x10240 : Shape := ⟨2, ![56, 10240]⟩
abbrev S10240 : Shape := ⟨1, ![10240]⟩
abbrev S32768x7168 : Shape := ⟨2, ![32768, 7168]⟩
abbrev S32768x1 : Shape := ⟨2, ![32768, 1]⟩
abbrev S256x7168 : Shape := ⟨2, ![256, 7168]⟩
abbrev S256x1 : Shape := ⟨2, ![256, 1]⟩
abbrev S256 : Shape := ⟨1, ![256]⟩
abbrev S1x10240 : Shape := ⟨2, ![1, 10240]⟩
abbrev S7168x10240 : Shape := ⟨2, ![7168, 10240]⟩
abbrev S8x10240 : Shape := ⟨2, ![8, 10240]⟩
abbrev S7168x256 : Shape := ⟨2, ![7168, 256]⟩
abbrev S56x256 : Shape := ⟨2, ![56, 256]⟩
abbrev S1x256 : Shape := ⟨2, ![1, 256]⟩
abbrev S8x256 : Shape := ⟨2, ![8, 256]⟩
abbrev S56x128x256 : Shape := ⟨3, ![56, 128, 256]⟩
abbrev S56x1x256 : Shape := ⟨3, ![56, 1, 256]⟩
abbrev S_ : Shape := ⟨0, ![]⟩
abbrev S32768x10240 : Shape := ⟨2, ![32768, 10240]⟩
abbrev S512x7168 : Shape := ⟨2, ![512, 7168]⟩
abbrev S512x1 : Shape := ⟨2, ![512, 1]⟩
abbrev S512x256 : Shape := ⟨2, ![512, 256]⟩
abbrev S1024x7168 : Shape := ⟨2, ![1024, 7168]⟩
abbrev S7168x1024 : Shape := ⟨2, ![7168, 1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 21
  | .vmem => 40
  | .smem => 0
  | _ => 0

abbrev bufTy : (tb : Table) → Fin (tcTables nBuf tb) → BufTy
  | .hbm, ⟨0, _⟩ => ⟨S4x8192x7168, .bf16⟩
  | .hbm, ⟨1, _⟩ => ⟨S7168x5120, .i8⟩
  | .hbm, ⟨2, _⟩ => ⟨S56x10240, .f32⟩
  | .hbm, ⟨3, _⟩ => ⟨S10240, .f32⟩
  | .hbm, ⟨4, _⟩ => ⟨S32768x7168, .bf16⟩
  | .hbm, ⟨5, _⟩ => ⟨S32768x7168, .fp8e4m3⟩
  | .hbm, ⟨6, _⟩ => ⟨S32768x1, .f32⟩
  | .hbm, ⟨7, _⟩ => ⟨S1x10240, .f32⟩
  | .hbm, ⟨8, _⟩ => ⟨S7168x10240, .fp8e4m3⟩
  | .hbm, ⟨9, _⟩ => ⟨S1x10240, .f32⟩
  | .hbm, ⟨10, _⟩ => ⟨S8x10240, .i32⟩
  | .hbm, ⟨11, _⟩ => ⟨S_, .i32⟩
  | .hbm, ⟨12, _⟩ => ⟨S8x10240, .i32⟩
  | .hbm, ⟨13, _⟩ => ⟨S8x10240, .i1⟩
  | .hbm, ⟨14, _⟩ => ⟨S_, .i1⟩
  | .hbm, ⟨15, _⟩ => ⟨S_, .i1⟩
  | .hbm, ⟨16, _⟩ => ⟨S_, .i32⟩
  | .hbm, ⟨17, _⟩ => ⟨S32768x10240, .bf16⟩
  | .hbm, ⟨18, _⟩ => ⟨S1x10240, .f32⟩
  | .hbm, ⟨19, _⟩ => ⟨S32768x10240, .bf16⟩
  | .hbm, ⟨20, _⟩ => ⟨S32768x10240, .bf16⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x1, .f32⟩
  | .local _ .vmem, ⟨5, _⟩ => ⟨S256x1, .f32⟩
  | .local _ .vmem, ⟨6, _⟩ => ⟨S7168x256, .i8⟩
  | .local _ .vmem, ⟨7, _⟩ => ⟨S7168x256, .i8⟩
  | .local _ .vmem, ⟨8, _⟩ => ⟨S56x256, .f32⟩
  | .local _ .vmem, ⟨9, _⟩ => ⟨S56x256, .f32⟩
  | .local _ .vmem, ⟨10, _⟩ => ⟨S1x256, .f32⟩
  | .local _ .vmem, ⟨11, _⟩ => ⟨S1x256, .f32⟩
  | .local _ .vmem, ⟨12, _⟩ => ⟨S7168x256, .fp8e4m3⟩
  | .local _ .vmem, ⟨13, _⟩ => ⟨S7168x256, .fp8e4m3⟩
  | .local _ .vmem, ⟨14, _⟩ => ⟨S1x256, .f32⟩
  | .local _ .vmem, ⟨15, _⟩ => ⟨S1x256, .f32⟩
  | .local _ .vmem, ⟨16, _⟩ => ⟨S8x256, .i32⟩
  | .local _ .vmem, ⟨17, _⟩ => ⟨S8x256, .i32⟩
  | .local _ .vmem, ⟨18, _⟩ => ⟨S512x7168, .fp8e4m3⟩
  | .local _ .vmem, ⟨19, _⟩ => ⟨S512x7168, .fp8e4m3⟩
  | .local _ .vmem, ⟨20, _⟩ => ⟨S7168x256, .i8⟩
  | .local _ .vmem, ⟨21, _⟩ => ⟨S7168x256, .i8⟩
  | .local _ .vmem, ⟨22, _⟩ => ⟨S56x256, .f32⟩
  | .local _ .vmem, ⟨23, _⟩ => ⟨S56x256, .f32⟩
  | .local _ .vmem, ⟨24, _⟩ => ⟨S512x1, .f32⟩
  | .local _ .vmem, ⟨25, _⟩ => ⟨S512x1, .f32⟩
  | .local _ .vmem, ⟨26, _⟩ => ⟨S1x256, .f32⟩
  | .local _ .vmem, ⟨27, _⟩ => ⟨S1x256, .f32⟩
  | .local _ .vmem, ⟨28, _⟩ => ⟨S512x256, .bf16⟩
  | .local _ .vmem, ⟨29, _⟩ => ⟨S512x256, .bf16⟩
  | .local _ .vmem, ⟨30, _⟩ => ⟨S1024x7168, .fp8e4m3⟩
  | .local _ .vmem, ⟨31, _⟩ => ⟨S1024x7168, .fp8e4m3⟩
  | .local _ .vmem, ⟨32, _⟩ => ⟨S7168x1024, .fp8e4m3⟩
  | .local _ .vmem, ⟨33, _⟩ => ⟨S7168x1024, .fp8e4m3⟩
  | .local _ .vmem, ⟨34, _⟩ => ⟨S1024x1, .f32⟩
  | .local _ .vmem, ⟨35, _⟩ => ⟨S1024x1, .f32⟩
  | .local _ .vmem, ⟨36, _⟩ => ⟨S1x1024, .f32⟩
  | .local _ .vmem, ⟨37, _⟩ => ⟨S1x1024, .f32⟩
  | .local _ .vmem, ⟨38, _⟩ => ⟨S1024x1024, .bf16⟩
  | .local _ .vmem, ⟨39, _⟩ => ⟨S1024x1024, .bf16⟩
  | _, _ => ⟨S4x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_case0b0_v9 : Ref sig .tc := ⟨.hbm, 18, rfl⟩
abbrev main_case0b0_v10 : Ref sig .tc := ⟨.hbm, 19, rfl⟩
abbrev main_case0b1_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc1_transform_5 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

abbrev stage1_0 : Fin 2 → Memref sig .tc .vmem S7168x256 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S56x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S7168x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x256 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![2, 20, 64], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.muli arg0 c20_i32
  let v1 : BitVec 32 := Scalar.addi v0 arg1
  let c0_i32 : BitVec 32 := 0#32
  ![arg2.toNat, v1.toNat]

abbrev stage2_0 : Fin 2 → Memref sig .tc .vmem S512x7168 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, false, true]

abbrev stage2_1 : Fin 2 → Memref sig .tc .vmem S7168x256 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S56x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S512x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev grid3 : Pipeline.Grid := ⟨2, ![10, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x7168 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S7168x1024 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== KernelIdeal.lean ====
variable {F : FTy → Type} [FloatOps F]
-- ==== ReferenceIdeal.lean ====
abbrev S4x8192x7168 : Shape := ⟨3, ![4, 8192, 7168]⟩
abbrev S7168x5120 : Shape := ⟨2, ![7168, 5120]⟩
abbrev S56x10240 : Shape := ⟨2, ![56, 10240]⟩
abbrev S10240 : Shape := ⟨1, ![10240]⟩
abbrev S32768x7168 : Shape := ⟨2, ![32768, 7168]⟩
abbrev S1x10240 : Shape := ⟨2, ![1, 10240]⟩
abbrev S32768x10240 : Shape := ⟨2, ![32768, 10240]⟩
abbrev S32768x1 : Shape := ⟨2, ![32768, 1]⟩
abbrev S32768 : Shape := ⟨1, ![32768]⟩
abbrev S1x277 : Shape := ⟨2, ![1, 277]⟩
abbrev S32768x277 : Shape := ⟨2, ![32768, 277]⟩
abbrev S56x5120 : Shape := ⟨2, ![56, 5120]⟩
abbrev S56x128x5120 : Shape := ⟨3, ![56, 128, 5120]⟩
abbrev S56x1x5120 : Shape := ⟨3, ![56, 1, 5120]⟩
abbrev S32768x5120 : Shape := ⟨2, ![32768, 5120]⟩

abbrev nBuf : Space → Nat
  | .hbm => 9
  | .vmem => 7
  | .smem => 0
  | _ => 0

abbrev bufTy : (tb : Table) → Fin (tcTables nBuf tb) → BufTy
  | .hbm, ⟨0, _⟩ => ⟨S4x8192x7168, .bf16⟩
  | .hbm, ⟨1, _⟩ => ⟨S7168x5120, .i8⟩
  | .hbm, ⟨2, _⟩ => ⟨S56x10240, .f32⟩
  | .hbm, ⟨3, _⟩ => ⟨S10240, .f32⟩
  | .hbm, ⟨4, _⟩ => ⟨S32768x7168, .bf16⟩
  | .hbm, ⟨5, _⟩ => ⟨S1x10240, .f32⟩
  | .hbm, ⟨6, _⟩ => ⟨S32768x10240, .bf16⟩
  | .hbm, ⟨7, _⟩ => ⟨S32768x7168, .fp8e4m3⟩
  | .hbm, ⟨8, _⟩ => ⟨S32768x1, .f32⟩
  | .local _ .vmem, ⟨0, _⟩ => ⟨S32768x7168, .bf16⟩
  | .local _ .vmem, ⟨1, _⟩ => ⟨S7168x5120, .i8⟩
  | .local _ .vmem, ⟨2, _⟩ => ⟨S56x10240, .f32⟩
  | .local _ .vmem, ⟨3, _⟩ => ⟨S1x10240, .f32⟩
  | .local _ .vmem, ⟨4, _⟩ => ⟨S32768x10240, .bf16⟩
  | .local _ .vmem, ⟨5, _⟩ => ⟨S32768x7168, .fp8e4m3⟩
  | .local _ .vmem, ⟨6, _⟩ => ⟨S32768x1, .f32⟩
  | _, _ => ⟨S4x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Region.lean ====
module

public import proofs.«01_k».proof.Proof.Gen.Kernel.Launch
public import Idealize.ShloMosaic.Lib.Pipeline.FrameBody
public import Idealize.ShloMosaic.Lib.Pipeline.RegionsLoop
public import Idealize.ShloMosaic.Lib.Pipeline.RegionArraysS
public import Idealize.ShloMosaic.Lib.Tactic

@[expose] public section

noncomputable section

/-! A kernel call as one step of the program: every buffer at a valuation before, and at the valuation with the call's
    arrays overwritten after. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [BitOps F]

local notation "UU" => UR sig nD τ × UR sig nD τ
local notation "𝕄" => MT nD τ sig Unit (Elt F) ℕ UU ℕ

/-- No call has a prefetched table. -/
abbrev adm : (p : Fin 4) → (pcfgs (F := F) p).Adm := fun p => (cfgs p).toPCfg_adm

abbrev 𝒱₀ : Variants := Variants.none
/-- No core owes another anything: no level is assigned. -/
abbrev L : GSem nD τ sig → Finset Unit := fun _ => ∅
abbrev lv : GSem nD τ sig → Unit → ℕ := fun _ _ => 0

/-- What a core holds beside its buffers: its generator register, and that it owes nothing. -/
def Side (c : Dev nD) : sProp 𝕄 :=
  iprop((∃ r, prngReg c r) ∗ ∃ W, owes (c.tc : Thread nD τ) (0 : CellTallies nD τ sig Unit) W)

/-- Every buffer of core `c` outside the calls' own memory, whole, at the valuation `V`. -/
abbrev St (V : Valuation τ sig (Elt F)) (c : Dev nD) : sProp 𝕄 :=
  StableHlo.held (c.tc : Thread nD τ) (Pipeline.ucRefs τ sig) V

variable (pdats : (p : Fin 4) → (c : Dev nD) → Dat τ (Elt F) Unit ℕ UU ℕ (cfgs p) c)

-- the library's lemmas are stated over the pinned configuration, which unifies only by unfolding plain definitions
set_option backward.isDefEq.respectTransparency.types false in
set_option maxHeartbeats 1000000 in
/-- Call `p` as a step, entered from every buffer at `W c` and left with the call's arrays as its proof data compute
    them; `R c` rides along. -/
def reg (p : Fin 4) (kit : Pipeline.LaunchFacts (nD := nD) (τ := τ) cfgs p)
    (hbody : ∀ c, BodyObligation (pdats p c) (defs₀ (F := F)) 𝒱₀ () Set.univ)
    (hΦ : ∀ c t, (pdats p c).Φ t = Pipeline.ΦA (cfgs p).spec c)
    (howed : ∀ c t, (pdats p c).owed t = 0)
    (hrec : ∀ c, (pdats p c).recorded 0 = Set.univ)
    (hshare : ∀ c w, (pdats p c).share w = fullShare)
    (R : Dev nD → sProp 𝕄) (W : Dev nD → Valuation τ sig (Elt F))
    (hW : ∀ c w, (pdats p c).A w = W c (Proc.devRef .tc (Pipeline.arrRef (cfgs p).spec w))) :
    RegionSeg (pcfgs (F := F)) adm pdats () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(St (W c) c ∗ Side c ∗ R c)
  post c := iprop(St (Pipeline.afterRegion (pdats p c) (W c)) c ∗ Side c ∗ R c)
  X c := iprop(∃ r, prngReg c r)
  Y c := iprop(∃ r, prngReg c r)
  Z c := iprop(Pipeline.unscopedRest (Ix := Unit) (Name := ℕ) (U := UU) (Lvl := ℕ) (cfgs p).spec c (fun b => W c b) ∗ R c)
  hentry c := by
    rw [Pipeline.ownSems0_none]
    have hsplit := Pipeline.arrays_of_unscopedBufs (p := p) (pcfgs (F := F)) adm pdats kit.win kit.arr_whole c
      (hshare c) (fun b => W c b) (hW c)
    rw [Pipeline.unscopedBufs_held] at hsplit
    unfold Side
    iintro ⟨⟨Hub, ⟨HP, HO⟩, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr
      · ipureintro; exact fun x _ => Or.inl (by rw [hrec]; trivial)
      iexact HO
    isplitl [HP]; · iexact HP
    isplitl [Hrest] <;> iassumption
  hin c := by
    rw [hΦ]; unfold Pipeline.ΦA
    iintro ⟨HX, -, Hr⟩
    isplitl [Hr]; · iexact Hr
    iexact HX
  hout c := by
    rw [Pipeline.ownSems0_none, hΦ]; unfold Pipeline.ΦA
    iintro ⟨Hr, HX⟩
    isplitl [HX]; · iexact HX
    isplitr; · iempintro
    iexact Hr
  hexit c := by
    have hjoin := Pipeline.unscopedBufs_of_arrays (p := p) (pcfgs (F := F)) adm (Ix := Unit) (Name := ℕ) (U := UU) (Lvl := ℕ) kit.win kit.arr_whole c
      pdats (hshare c) (fun b => W c b) (fun b => Pipeline.afterRegion (pdats p c) (W c) b) ((pdats p c).arrAt · (cfgs p).N)
      (fun w => (Pipeline.afterRegion_arr (pdats p c) (W c) kit.win.arr_inj w).symm)
      (fun b hb => Pipeline.afterRegion_of_not_arr (pdats p c) (W c) fun w e => hb (Finset.mem_image.mpr ⟨w, Finset.mem_univ _, e.symm⟩))
    rw [Pipeline.unscopedBufs_held] at hjoin
    unfold Side
    iintro ⟨Ha, HO, HY, Hrest, HR⟩
    imodintro
    isplitl [Ha Hrest]
    · iapply hjoin; isplitl [Ha] <;> iassumption
    isplitl [HY HO]
    · isplitl [HY]; · iexact HY
      unfold Pipeline.Dat.owesAt Pipeline.owesWithin
      rw [howed]
      icases HO with ⟨%W, -, HO⟩; iexists W; iexact HO
    iexact HR

end Cert.Kernel.Run

end
-- ==== Proof.Kernel.Quantize.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the quantiser leaves: per block of 256 rows, the codes and the scales, from the block of `x`. -/

namespace Cert.Kernel.Quantize

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`)`Dat.before_in_eq_fetched` (unfetched, the index has not moved), the window uncut and never idle. -/
theorem before0_0_of {c : Dev nD} (dat : Dat τ (Elt F) Unit ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-- The exponent search's lower bits. -/
def v80 (x0 : Vec F S256x7168 .bf16) : IVec S256x1 32 := k0_pay8 (k0_pay5 (View.ld x0 r0_0)) (k0_pay6 (View.ld x0 r0_0)) (k0_pay7 (View.ld x0 r0_0)) 16#32
/-- Where the exponent is neither 0 nor 255. -/
def v85 (x0 : Vec F S256x7168 .bf16) : IVec S256x1 1 := k0_pay9 (k0_pay5 (View.ld x0 r0_0)) (k0_pay6 (View.ld x0 r0_0)) (k0_pay7 (View.ld x0 r0_0)) 16#32

/-- Window 1's staging buffer after the body, from the input windows' blocks: its 1 store as pieces, LAST
    FIRST. -/
def out0_1 (x0 : Vec F S256x7168 .bf16) : Vec F S256x7168 .fp8e4m3 :=
  View.canon [⟨r0_0, k0_pay3 (k0_pay4 (View.ld x0 r0_0)) (v80 x0) (v85 x0) k0_pay10⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST. -/
def out0_2 (x0 : Vec F S256x7168 .bf16) : Vec F S256x1 .f32 :=
  View.canon [⟨r0_1, k0_pay2 (F := F) (v80 x0) (v85 x0) k0_pay10⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantize i arg1 harg1 arg2 harg2 arg3 harg3) K := by
  simp only [cc0_quantize_eq_skeleton]; unfold cc0_quantize_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact (View.read_writes_eq_canon _ _ _ (cover0_1 _)).trans rfl
  iexists _; isplitr
  swap; · iexact H2
  ipureintro
  exact (View.read_writes_eq_canon _ _ _ (cover0_2 _)).trans rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ UU ℕ cfg0 c where
  A w := V c (Pipeline.arrRef spec0 w)
  after w t := match w with
    | ⟨0, _⟩ => iblk V c 0 t
    | ⟨1, _⟩ => out0_1 (iblk V c 0 t)
    | ⟨2, _⟩ => out0_2 (iblk V c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl``Dat`). -/
theorem after0_0 (c : Dev nD) (t : Fin cfg0.N) : (dat V c).after 0 t = iblk V c 0 t := by dsimp only [dat]
theorem after0_1 (c : Dev nD) (t : Fin cfg0.N) : (dat V c).after 1 t = out0_1 (iblk V c 0 t) := by dsimp only [dat]
theorem after0_2 (c : Dev nD) (t : Fin cfg0.N) : (dat V c).after 2 t = out0_2 (iblk V c 0 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.Quantize

end
-- ==== Proof.Kernel.Fold.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the weight fold leaves: per block of columns, the folded weights, their column scale, and whether every group's exponent is in range. -/

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`)`Dat.before_in_eq_fetched` (unfetched, the index has not moved), the window uncut and never idle. -/
theorem before1_0_of {c : Dev nD} (dat : Dat τ (Elt F) Unit ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)`Dat.before_in_eq_fetched` (unfetched, the index has not moved), the window uncut and never idle. -/
theorem before1_1_of {c : Dev nD} (dat : Dat τ (Elt F) Unit ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)`Dat.before_in_eq_fetched` (unfetched, the index has not moved), the window uncut and never idle. -/
theorem before1_2_of {c : Dev nD} (dat : Dat τ (Elt F) Unit ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S56x256 := Rect.unit (s := S56x256) ![0, 0] S56x256.size inb_S56x256_S56x256_0_0
abbrev r1_1 : Rect S8x256 := Rect.unit (s := S8x256) ![0, 0] S8x256.size inb_S8x256_S8x256_0_0
abbrev r1_2 : Rect S1x256 := Rect.unit (s := S1x256) ![0, 0] S1x256.size inb_S1x256_S1x256_0_0
abbrev r1_3 : Rect S7168x256 := Rect.unit (s := S7168x256) ![0, 0] S7168x256.size inb_S7168x256_S7168x256_0_0

/-! ## What the body leaves in each output window's buffer -/

/-- The exponents of a block of group scales. -/
def v77 (x1 : Vec F S56x256 .f32) : IVec S56x256 32 := k1_pay7 (k1_pay5 (View.ld x1 r1_0)) (k1_pay6 (View.ld x1 r1_0)) 8#32
/-- The largest exponent of each column. -/
def v79 (x1 : Vec F S56x256 .f32) : IVec S1x256 32 := k1_pay8 (k1_pay5 (View.ld x1 r1_0)) (k1_pay6 (View.ld x1 r1_0)) 8#32
/-- Each exponent relative to its column's largest. -/
def v83 (x1 : Vec F S56x256 .f32) : IVec S56x256 32 := k1_pay9 (k1_pay5 (View.ld x1 r1_0)) (k1_pay6 (View.ld x1 r1_0)) 8#32

/-- Window 3's staging buffer after the body, from the input windows' blocks: its 1 store as pieces, LAST
    FIRST. -/
def out1_3 (i : grid1.Coords) (x0 : Vec F S7168x256 .i8) (x1 : Vec F S56x256 .f32) (x2 : Vec F S1x256 .f32) : Vec F S7168x256 .fp8e4m3 :=
  View.canon [⟨r1_3, k1_pay2 (BitVec.ofNat 32 (i 0).val) (k1_pay13 (F := F) (k1_pay4 (View.ld x1 r1_0)) (v83 x1)) (View.ld x0 r1_3)⟩]

/-- Its stores tile the buffer (checked by evaluation), so they cover it. -/
theorem cover1_3 (p0 : Vec F S7168x256 .fp8e4m3) (y : S7168x256.Idx) :
    ∃ pc ∈ ([⟨r1_3, p0⟩] : List (View.Piece (Elt F) S7168x256 .fp8e4m3)), y ∈ pc.1.set :=
  View.cover_of_tiled [⟨r1_3, p0⟩] S7168x256.size (by rfl) y

/-- Window 4's staging buffer after the body, from the input windows' blocks: its 1 store as pieces, LAST
    FIRST. -/
def out1_4 (i : grid1.Coords) (x0 : Vec F S7168x256 .i8) (x1 : Vec F S56x256 .f32) (x2 : Vec F S1x256 .f32) : Vec F S1x256 .f32 :=
  View.canon [⟨r1_2, k1_pay1 (k1_pay14 (F := F) (v79 x1)) (View.ld x2 r1_2)⟩]

/-- Its stores tile the buffer (checked by evaluation), so they cover it. -/
theorem cover1_4 (p0 : Vec F S1x256 .f32) (y : S1x256.Idx) :
    ∃ pc ∈ ([⟨r1_2, p0⟩] : List (View.Piece (Elt F) S1x256 .f32)), y ∈ pc.1.set :=
  View.cover_of_tiled [⟨r1_2, p0⟩] S1x256.size (by rfl) y

/-- Window 5's staging buffer after the body, from the input windows' blocks: its 1 store as pieces, LAST
    FIRST. -/
def out1_5 (i : grid1.Coords) (x0 : Vec F S7168x256 .i8) (x1 : Vec F S56x256 .f32) (x2 : Vec F S1x256 .f32) : Vec F S8x256 .i32 :=
  View.canon [⟨r1_1, k1_pay12 (v77 x1) (v79 x1) (v83 x1) (k1_pay10 (k1_pay3 (View.ld x1 r1_0))) (k1_pay11 (k1_pay5 (View.ld x1 r1_0)) (k1_pay6 (View.ld x1 r1_0)) 8#32)⟩]

/-- Its stores tile the buffer (checked by evaluation), so they cover it. -/
theorem cover1_5 (p0 : Vec F S8x256 .i32) (y : S8x256.Idx) :
    ∃ pc ∈ ([⟨r1_1, p0⟩] : List (View.Piece (Elt F) S8x256 .i32)), y ∈ pc.1.set :=
  View.cover_of_tiled [⟨r1_1, p0⟩] S8x256.size (by rfl) y

/-! ## The body's triple -/

set_option maxHeartbeats 4000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel (c : Dev nD) (E : Set ℕ) (i : grid1.Coords) (arg2 : Memref sig .tc .vmem S7168x256 .i8) (harg2 : arg2.IsWhole) (arg3 : Memref sig .tc .vmem S56x256 .f32) (harg3 : arg3.IsWhole) (arg4 : Memref sig .tc .vmem S1x256 .f32) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S8x256 .i32) (harg7 : arg7.IsWhole)
    (x0 : Vec F S7168x256 .i8) (x1 : Vec F S56x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 i x0 x1 x2) ∗ owns (c : Thread nD τ) arg6 fullShare (out1_4 i x0 x1 x2) ∗ owns (c : Thread nD τ) arg7 fullShare (out1_5 i x0 x1 x2)) -∗ K ⟨⟩))
      ⊢ wp frame (wpE (defs₀ (F := F)) Variants.none c none) E (cc1_fold_weights i arg2 harg2 arg3 harg3 arg4 harg4 arg5 harg5 arg6 harg6 arg7 harg7) K := by
  simp only [cc1_fold_weights_eq_skeleton]; unfold cc1_fold_weights_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of the one pipeline on core `c`: the arrays as the region finds them (`V`); after the body at
    point `t` each input's buffer at its block and each output's at `out1_W` of the input blocks; the invariant the
    class's; nothing owed;
    full shares. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out1_3 (grid1.coords t) (iblk V c 0 t) (iblk V c 1 t) (iblk V c 2 t)
    | ⟨4, _⟩ => out1_4 (grid1.coords t) (iblk V c 0 t) (iblk V c 1 t) (iblk V c 2 t)
    | ⟨5, _⟩ => out1_5 (grid1.coords t) (iblk V c 0 t) (iblk V c 1 t) (iblk V c 2 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`, never `rfl``Dat`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = out1_3 (grid1.coords t) (iblk V c 0 t) (iblk V c 1 t) (iblk V c 2 t) := by dsimp only [dat]
theorem after1_4 (c : Dev nD) (t : Fin cfg1.N) : (dat V c).after 4 t = out1_4 (grid1.coords t) (iblk V c 0 t) (iblk V c 1 t) (iblk V c 2 t) := by dsimp only [dat]
theorem after1_5 (c : Dev nD) (t : Fin cfg1.N) : (dat V c).after 5 t = out1_5 (grid1.coords t) (iblk V c 0 t) (iblk V c 1 t) (iblk V c 2 t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks (`before1_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).Φ t.succ = (dat V c).Φ t.castSucc from rfl,
    show (dat V c).owesAt () t.succ = (dat V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.Fold

end
-- ==== Proof.Kernel.Wide.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the bf16 product leaves: per block, the product with the weights dequantised in the block. -/

namespace Cert.Kernel.Wide

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`)`Dat.before_in_eq_fetched` (unfetched, the index has not moved), the window uncut and never idle. -/
theorem before2_0_of {c : Dev nD} (dat : Dat τ (Elt F) Unit ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)`Dat.before_in_eq_fetched` (unfetched, the index has not moved), the window uncut and never idle. -/
theorem before2_1_of {c : Dev nD} (dat : Dat τ (Elt F) Unit ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)`Dat.before_in_eq_fetched` (unfetched, the index has not moved), the window uncut and never idle. -/
theorem before2_2_of {c : Dev nD} (dat : Dat τ (Elt F) Unit ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`)`Dat.before_in_eq_fetched` (unfetched, the index has not moved), the window uncut and never idle. -/
theorem before2_3_of {c : Dev nD} (dat : Dat τ (Elt F) Unit ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`)`Dat.before_in_eq_fetched` (unfetched, the index has not moved), the window uncut and never idle. -/
theorem before2_4_of {c : Dev nD} (dat : Dat τ (Elt F) Unit ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S56x256 := Rect.unit (s := S56x256) ![0, 0] S56x256.size inb_S56x256_S56x256_0_0
abbrev r2_1 : Rect S7168x256 := Rect.unit (s := S7168x256) ![0, 0] S7168x256.size inb_S7168x256_S7168x256_0_0
abbrev r2_2 : Rect S512x7168 := Rect.unit (s := S512x7168) ![0, 0] S512x7168.size inb_S512x7168_S512x7168_0_0
abbrev r2_3 : Rect S512x1 := Rect.unit (s := S512x1) ![0, 0] S512x1.size inb_S512x1_S512x1_0_0
abbrev r2_4 : Rect S1x256 := Rect.unit (s := S1x256) ![0, 0] S1x256.size inb_S1x256_S1x256_0_0
abbrev r2_5 : Rect S512x256 := Rect.unit (s := S512x256) ![0, 0] S512x256.size inb_S512x256_S512x256_0_0

/-! ## What the body leaves in each output window's buffer -/

/-- Window 5's staging buffer after the body, from the input windows' blocks: its 1 store as pieces, LAST
    FIRST. -/
def out2_5 (i : grid2.Coords) (x0 : Vec F S512x7168 .fp8e4m3) (x1 : Vec F S7168x256 .i8) (x2 : Vec F S56x256 .f32) (x3 : Vec F S512x1 .f32) (x4 : Vec F S1x256 .f32) : Vec F S512x256 .bf16 :=
  View.canon [⟨r2_5, k2_pay1 i (View.ld x2 r2_0) (View.ld x1 r2_1) (View.ld x0 r2_2) (View.ld x3 r2_3) (View.ld x4 r2_4)⟩]

/-- Its stores tile the buffer (checked by evaluation), so they cover it. -/
theorem cover2_5 (p0 : Vec F S512x256 .bf16) (y : S512x256.Idx) :
    ∃ pc ∈ ([⟨r2_5, p0⟩] : List (View.Piece (Elt F) S512x256 .bf16)), y ∈ pc.1.set :=
  View.cover_of_tiled [⟨r2_5, p0⟩] S512x256.size (by rfl) y

/-! ## The body's triple -/

set_option maxHeartbeats 4000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel (c : Dev nD) (E : Set ℕ) (i : grid2.Coords) (arg3 : Memref sig .tc .vmem S512x7168 .fp8e4m3) (harg3 : arg3.IsWhole) (arg4 : Memref sig .tc .vmem S7168x256 .i8) (harg4 : arg4.IsWhole) (arg5 : Memref sig .tc .vmem S56x256 .f32) (harg5 : arg5.IsWhole) (arg6 : Memref sig .tc .vmem S512x1 .f32) (harg6 : arg6.IsWhole) (arg7 : Memref sig .tc .vmem S1x256 .f32) (harg7 : arg7.IsWhole) (arg8 : Memref sig .tc .vmem S512x256 .bf16) (harg8 : arg8.IsWhole)
    (x0 : Vec F S512x7168 .fp8e4m3) (x1 : Vec F S7168x256 .i8) (x2 : Vec F S56x256 .f32) (x3 : Vec F S512x1 .f32) (x4 : Vec F S1x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out2_5 i x0 x1 x2 x3 x4)) -∗ K ⟨⟩))
      ⊢ wp frame (wpE (defs₀ (F := F)) Variants.none c none) E (cc2_matmul_bf16 i arg3 harg3 arg4 harg4 arg5 harg5 arg6 harg6 arg7 harg7 arg8 harg8) K := by
  simp only [cc2_matmul_bf16_eq_skeleton]; unfold cc2_matmul_bf16_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the one pipeline on core `c`: the arrays as the region finds them (`V`); after the body at
    point `t` each input's buffer at its block and each output's at `out2_W` of the input blocks; the invariant the
    class's; nothing owed;
    full shares. -/
def dat (c : Dev nD) : Dat τ (Elt F) Unit ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out2_5 (grid2.coords t) (iblk V c 0 t) (iblk V c 1 t) (iblk V c 2 t) (iblk V c 3 t) (iblk V c 4 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`, never `rfl``Dat`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = out2_5 (grid2.coords t) (iblk V c 0 t) (iblk V c 1 t) (iblk V c 2 t) (iblk V c 3 t) (iblk V c 4 t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks (`before2_W`), so `sound_kernel` applies; the invariant and
    the core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).Φ t.succ = (dat V c).Φ t.castSucc from rfl,
    show (dat V c).owesAt () t.succ = (dat V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.Wide

end
-- ==== Proof.Kernel.Narrow.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the fp8 product leaves: per block, the product with the folded weights. -/

namespace Cert.Kernel.Narrow

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`)`Dat.before_in_eq_fetched` (unfetched, the index has not moved), the window uncut and never idle. -/
theorem before3_0_of {c : Dev nD} (dat : Dat τ (Elt F) Unit ℕ UU ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)`Dat.before_in_eq_fetched` (unfetched, the index has not moved), the window uncut and never idle. -/
theorem before3_1_of {c : Dev nD} (dat : Dat τ (Elt F) Unit ℕ UU ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)`Dat.before_in_eq_fetched` (unfetched, the index has not moved), the window uncut and never idle. -/
theorem before3_2_of {c : Dev nD} (dat : Dat τ (Elt F) Unit ℕ UU ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`)`Dat.before_in_eq_fetched` (unfetched, the index has not moved), the window uncut and never idle. -/
theorem before3_3_of {c : Dev nD} (dat : Dat τ (Elt F) Unit ℕ UU ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_0 : Rect S1024x7168 := Rect.unit (s := S1024x7168) ![0, 0] S1024x7168.size inb_S1024x7168_S1024x7168_0_0
abbrev r3_1 : Rect S7168x1024 := Rect.unit (s := S7168x1024) ![0, 0] S7168x1024.size inb_S7168x1024_S7168x1024_0_0
abbrev r3_2 : Rect S1024x1 := Rect.unit (s := S1024x1) ![0, 0] S1024x1.size inb_S1024x1_S1024x1_0_0
abbrev r3_3 : Rect S1x1024 := Rect.unit (s := S1x1024) ![0, 0] S1x1024.size inb_S1x1024_S1x1024_0_0
abbrev r3_4 : Rect S1024x1024 := Rect.unit (s := S1024x1024) ![0, 0] S1024x1024.size inb_S1024x1024_S1024x1024_0_0

/-! ## What the body leaves in each output window's buffer -/

/-- Window 4's staging buffer after the body, from the input windows' blocks: its 1 store as pieces, LAST
    FIRST. -/
def out3_4 (x0 : Vec F S1024x7168 .fp8e4m3) (x1 : Vec F S7168x1024 .fp8e4m3) (x2 : Vec F S1024x1 .f32) (x3 : Vec F S1x1024 .f32) : Vec F S1024x1024 .bf16 :=
  View.canon [⟨r3_4, k3_pay1 (View.ld x0 r3_0) (View.ld x1 r3_1) (View.ld x2 r3_2) (View.ld x3 r3_3)⟩]

/-- Its stores tile the buffer (checked by evaluation), so they cover it. -/
theorem cover3_4 (p0 : Vec F S1024x1024 .bf16) (y : S1024x1024.Idx) :
    ∃ pc ∈ ([⟨r3_4, p0⟩] : List (View.Piece (Elt F) S1024x1024 .bf16)), y ∈ pc.1.set :=
  View.cover_of_tiled [⟨r3_4, p0⟩] S1024x1024.size (by rfl) y

/-! ## The body's triple -/

set_option maxHeartbeats 4000000 in
/-- The kernel body on whole staging memrefs, the inputs' at read contents `xW` and the outputs' at anything, runs to
    the continuation holding the inputs' as they were and each output's at `out3_W` of the inputs': the printed functions
    are their skeletons (`Gen.*_eq_skeleton`), which `sl_exec` runs, through every part call. -/
theorem sound_kernel (c : Dev nD) (E : Set ℕ) (i : grid3.Coords) (arg2 : Memref sig .tc .vmem S1024x7168 .fp8e4m3) (harg2 : arg2.IsWhole) (arg3 : Memref sig .tc .vmem S7168x1024 .fp8e4m3) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .bf16) (harg6 : arg6.IsWhole)
    (x0 : Vec F S1024x7168 .fp8e4m3) (x1 : Vec F S7168x1024 .fp8e4m3) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3_matmul_fp8 i arg2 harg2 arg3 harg3 arg4 harg4 arg5 harg5 arg6 harg6) K := by
  simp only [cc3_matmul_fp8_eq_skeleton]; unfold cc3_matmul_fp8_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the one pipeline on core `c`: the arrays as the region finds them (`V`); after the body at
    point `t` each input's buffer at its block and each output's at `out3_W` of the input blocks; the invariant the
    class's; nothing owed;
    full shares. -/
def dat (c : Dev nD) : Dat τ (Elt F) Unit ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out3_4 (iblk V c 0 t) (iblk V c 1 t) (iblk V c 2 t) (iblk V c 3 t)
  Φ _ := Pipeline.ΦA spec3 c
  q _ := fullShare
  owed _ := 0

/-- The proof data's arrays are the region-entry contents: the proof data's definition projected (`dsimp`), so that
    `V` — a fold over @main's host prefix, long for some programs — is never unfolded to check it. -/
theorem A_eq (c : Dev nD) (w : Fin cfg3.W) : (dat V c).A w = V c (Pipeline.arrRef spec3 w) := by
  dsimp only [dat]

/-- What the body leaves, window by window (the proof data's `match` reduced by `dsimp`, never `rfl``Dat`). -/
theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = out3_4 (iblk V c 0 t) (iblk V c 1 t) (iblk V c 2 t) (iblk V c 3 t) := by dsimp only [dat]

/-- Each input's current staging buffer holds its block at every point, fetched there or not (`beforeK_W_of`). -/
theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d

/-! ## The body obligation, at a generic point -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the inputs' memrefs hold their blocks (`before3_W`), so `sound_kernel` applies; the invariant and
    the core's `owes` pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3]
  rw [show (dat V c).Φ t.succ = (dat V c).Φ t.castSucc from rfl,
    show (dat V c).owesAt () t.succ = (dat V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.Kernel.Narrow

end
-- ==== Proof.Kernel.Program.lean ====
module

public import proofs.«01_k».proof.Proof.Kernel.Region
public import proofs.«01_k».proof.Proof.Kernel.Quantize
public import proofs.«01_k».proof.Proof.Kernel.Fold
public import proofs.«01_k».proof.Proof.Kernel.Wide
public import proofs.«01_k».proof.Proof.Kernel.Narrow
public import Idealize.ShloMosaic.Lib.HostLoop.Rules

@[expose] public section

noncomputable section

/-! The buffers' contents from one item of the program to the next: the host operations, the quantiser, the weight
    fold, and the branch on whether every group's scale folded exactly. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation afterRegion)

variable {F : FTy → Type} [BitOps F]

local notation "UU" => UR sig nD τ × UR sig nD τ
local notation "𝕄" => MT nD τ sig Unit (Elt F) ℕ UU ℕ

variable (m : (ℓ : Loc nD τ sig) → Buf (Elt F) ℓ)

/-- The read of the branch's word: the predicate widened to 32 bits. -/
abbrev rdOp : HloOp τ sig (Elt F) :=
  StableHlo.unary main_v6 main_v7 ((extui 32 · natLt_1_32) : (⟨S_, .i1⟩ : BufTy).Contents (Elt F) → (⟨S_, .i32⟩ : BufTy).Contents (Elt F))
/-- The first arm's operation before its call: the column scales as a row. -/
abbrev wideOp : HloOp τ sig (Elt F) :=
  StableHlo.reshape main_arg3 main_case0b0_v9 (rfl : (.f32 : EltTy) = .f32) shapeCasts_S10240_S1x10240
/-- Each arm's copy of its call's result into the branch's result. -/
abbrev copyWide : HloOp τ sig (Elt F) := StableHlo.unary main_case0b0_v10 main_v8 id
abbrev copyNarrow : HloOp τ sig (Elt F) := StableHlo.unary main_case0b1_v9 main_v8 id

/-- Core `c`'s buffers at launch, -/
def V0 (c : Dev nD) : Valuation τ sig (Elt F) := fun b => m (c, b)
/-- before the quantiser, -/
def V1 (c : Dev nD) : Valuation τ sig (Elt F) := StableHlo.after hostOps0 (V0 m c)
/-- the quantiser's proof data there, -/
def d0 (c : Dev nD) : Dat τ (Elt F) Unit ℕ UU ℕ cfg0 c := Quantize.dat (fun c b => V1 m c b) c
/-- after it, -/
def V2 (c : Dev nD) : Valuation τ sig (Elt F) := afterRegion (d0 m c) (V1 m c)
/-- before the weight fold, -/
def V3 (c : Dev nD) : Valuation τ sig (Elt F) := StableHlo.after hostOps1 (V2 m c)
/-- the fold's proof data there, -/
def d1 (c : Dev nD) : Dat τ (Elt F) Unit ℕ UU ℕ cfg1 c := Fold.dat (fun c b => V3 m c b) c
/-- after it, -/
def V4 (c : Dev nD) : Valuation τ sig (Elt F) := afterRegion (d1 m c) (V3 m c)
/-- before the branch, -/
def V5 (c : Dev nD) : Valuation τ sig (Elt F) := StableHlo.after hostOps2 (V4 m c)
/-- after the read of its word, -/
def V6 (c : Dev nD) : Valuation τ sig (Elt F) := StableHlo.after [rdOp] (V5 m c)
/-- in the first arm, before its call, -/
def V7 (c : Dev nD) : Valuation τ sig (Elt F) := StableHlo.after [wideOp] (V6 m c)
/-- that call's proof data, -/
def d2 (c : Dev nD) : Dat τ (Elt F) Unit ℕ UU ℕ cfg2 c := Wide.dat (fun c b => V7 m c b) c
/-- after the first arm, -/
def V8 (c : Dev nD) : Valuation τ sig (Elt F) := StableHlo.after [copyWide] (afterRegion (d2 m c) (V7 m c))
/-- the second arm's call's proof data, -/
def d3 (c : Dev nD) : Dat τ (Elt F) Unit ℕ UU ℕ cfg3 c := Narrow.dat (fun c b => V6 m c b) c
/-- after the second arm. -/
def V9 (c : Dev nD) : Valuation τ sig (Elt F) := StableHlo.after [copyNarrow] (afterRegion (d3 m c) (V6 m c))

/-- The word that the branch reads. -/
def word (c : Dev nD) : BitVec 32 := V6 m c main_v7 HostLoop.idx0
/-- The buffers after arm `b`. -/
def VA (b : Fin 2) (c : Dev nD) : Valuation τ sig (Elt F) := if b = 0 then V8 m c else V9 m c
/-- Core `c`'s buffers at the end. -/
def VZ (c : Dev nD) : Valuation τ sig (Elt F) := VA m (HostLoop.branch (word m c) 1) c

/-- The calls' proof data. -/
def pdats : (p : Fin 4) → (c : Dev nD) → Dat τ (Elt F) Unit ℕ UU ℕ (cfgs p) c
  | 0 => d0 m | 1 => d1 m | 2 => d2 m | 3 => d3 m
  | ⟨_ + 4, h⟩ => absurd h (Nat.not_lt.2 (Nat.le_add_left _ _))

/-- The ghost state of the branch's calls, taken from the second copy of the pipelines' algebra. -/
abbrev G (c : Dev nD) : sProp 𝕄 := Pipeline.ghostOn (pcfgs (F := F)) adm embR Finset.univ c

/-! ## The four calls as steps -/

section Steps

set_option backward.isDefEq.respectTransparency.types false in
def reg0 (R : Dev nD → sProp 𝕄) : RegionSeg (pcfgs (F := F)) adm (pdats m) () defs₀ 𝒱₀ L lv 0 :=
  reg (pdats m) 0 launch0 (fun c => Quantize.body_obligation (fun c b => V1 m c b) c) (fun _ _ => rfl) (fun _ _ => rfl) (fun _ => rfl)
    (fun c => (d0 m c).share_full fun _ => rfl) R (V1 m) (Quantize.A_eq (fun c b => V1 m c b))
set_option backward.isDefEq.respectTransparency.types false in
def reg1 (R : Dev nD → sProp 𝕄) : RegionSeg (pcfgs (F := F)) adm (pdats m) () defs₀ 𝒱₀ L lv 1 :=
  reg (pdats m) 1 launch1 (fun c => Fold.body_obligation (fun c b => V3 m c b) c) (fun _ _ => rfl) (fun _ _ => rfl) (fun _ => rfl)
    (fun c => (d1 m c).share_full fun _ => rfl) R (V3 m) (Fold.A_eq (fun c b => V3 m c b))
set_option backward.isDefEq.respectTransparency.types false in
def reg2 (R : Dev nD → sProp 𝕄) : RegionSeg (pcfgs (F := F)) adm (pdats m) () defs₀ 𝒱₀ L lv 2 :=
  reg (pdats m) 2 launch2 (fun c => Wide.body_obligation (fun c b => V7 m c b) c) (fun _ _ => rfl) (fun _ _ => rfl) (fun _ => rfl)
    (fun c => (d2 m c).share_full fun _ => rfl) R (V7 m) (Wide.A_eq (fun c b => V7 m c b))
set_option backward.isDefEq.respectTransparency.types false in
def reg3 (R : Dev nD → sProp 𝕄) : RegionSeg (pcfgs (F := F)) adm (pdats m) () defs₀ 𝒱₀ L lv 3 :=
  reg (pdats m) 3 launch3 (fun c => Narrow.body_obligation (fun c b => V6 m c b) c) (fun _ _ => rfl) (fun _ _ => rfl) (fun _ => rfl)
    (fun c => (d3 m c).share_full fun _ => rfl) R (V6 m) (Narrow.A_eq (fun c b => V6 m c b))

/-- A stretch of host operations over every buffer. -/
abbrev ops (R : Dev nD → sProp 𝕄) (l : List (HloOp τ sig (Elt F))) (hs : l.Forall fun op => op.bufs ⊆ StableHlo.tcRefs τ sig) (hf : l.Forall fun op => op.fresh = ∅)
    (V : Dev nD → Valuation τ sig (Elt F)) :
    HostSeg (Ix := Unit) (Name := ℕ) (U := UU) (Lvl := ℕ) (pcfgs (F := F)) defs₀ 𝒱₀ L lv :=
  HostSeg.ofOps _ _ _ _ _ (Pipeline.ucRefs τ sig) l
    (fun op h => Pipeline.sub_ucRefs op ((List.forall_iff_forall_mem.mp hs) op h))
    (fun op h => (List.forall_iff_forall_mem.mp hf) op h) V (fun c => iprop(Side c ∗ R c))

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- The arms' steps. -/
def arm : Fin 2 → List (Seg (pcfgs (F := F)) adm (pdats m) () defs₀ 𝒱₀ L lv)
  | 0 => [.host (ops (fun _ => BI.emp) [wideOp] (StableHlo.reshape_bufs_sub ..) rfl (V6 m)), .region (reg2 m (fun _ => BI.emp)),
          .host (ops (fun _ => BI.emp) [copyWide] (StableHlo.unary_bufs_sub ..) rfl (fun c => afterRegion (d2 m c) (V7 m c)))]
  | 1 => [.region (reg3 m (fun _ => BI.emp)),
          .host (ops (fun _ => BI.emp) [copyNarrow] (StableHlo.unary_bufs_sub ..) rfl (fun c => afterRegion (d3 m c) (V6 m c)))]

end Steps

/-- The arms as printed. -/
abbrev armProg : Fin 2 → Prog (TpuEff nD τ sig (Elt F) (Pipeline.Sig Λ₀ (Fin 4) fun p => (pcfgs (F := F) p).Adm) .tc) PUnit
  | 0 => do
      hlo rfl (wideOp (F := F)) (fun _ => .ret ⟨⟩)
      Prog.lift (.customCall (Pipeline.entry 2) ())
      hlo rfl (copyWide (F := F)) (fun _ => .ret ⟨⟩)
      pure ⟨⟩
  | 1 => do
      Prog.lift (.customCall (Pipeline.entry 3) ())
      hlo rfl (copyNarrow (F := F)) (fun _ => .ret ⟨⟩)
      pure ⟨⟩
  | ⟨_ + 2, h⟩ => absurd h (Nat.not_lt.2 (Nat.le_add_left _ _))

theorem armProg_eq (b : Fin 2) : armProg (F := F) b = Seg.run (arm m b) := by
  rw [Seg.run_eq_chain]
  fin_cases b
  · show armProg (F := F) 0 = _
    chain_rfl
  · show armProg (F := F) 1 = _
    chain_rfl

/-- The branch: the read of its word, and the arm that the word names. -/
abbrev caseProg : Prog (TpuEff nD τ sig (Elt F) (Pipeline.Sig Λ₀ (Fin 4) fun p => (pcfgs (F := F) p).Adm) .tc) PUnit := do
  let x ← hlo rfl (rdOp (F := F)) (HostLoop.elt main_v7)
  HostLoop.case 2 x armProg

theorem arm_pipes (b : Fin 2) : (Seg.pipes (arm m b)).Nodup := by
  match b with
  | 0 => exact List.nodup_singleton _
  | 1 => exact List.nodup_singleton _

set_option backward.isDefEq.respectTransparency.types false in
theorem arm_chains (b : Fin 2) : Seg.Chains (fun c => iprop(St (V6 m c) c ∗ Side c ∗ BI.emp)) (arm m b)
    (fun c => iprop(St (VA m b c) c ∗ Side c ∗ BI.emp)) := by
  match b with
  | 0 => exact ⟨fun _ => .rfl, fun _ => .rfl, fun _ => .rfl, fun _ => .rfl⟩
  | 1 => exact ⟨fun _ => .rfl, fun _ => .rfl, fun _ => .rfl⟩

set_option backward.isDefEq.respectTransparency.types false in
set_option maxHeartbeats 1000000 in
set_option maxRecDepth 20000 in
/-- The arm that the word names, run from the buffers after the read. -/
theorem arm_wp (c : Dev nD) {β : Type} (k : PUnit → Prog (TpuEff nD τ sig (Elt F) (Pipeline.Sig Λ₀ (Fin 4) fun p => (pcfgs (F := F) p).Adm) .tc) β)
    (K : β → sProp 𝕄) (v : BitVec 32) (hv : v = word m c) :
    iprop((boundary (c.tc : Thread nD τ) ∗ (St (VZ m c) c ∗ Side c) -∗ wp frame (wpE (Pipeline.defs (pcfgs (F := F)) defs₀) (Variants.lift 𝒱₀) (c.tc : Thread nD τ) none) Set.univ (k ⟨⟩) K)
        ∗ boundary (c.tc : Thread nD τ) ∗ St (V6 m c) c ∗ Side c ∗ G c ∗ levAts L lv)
      ⊢ wp frame (wpE (Pipeline.defs (pcfgs (F := F)) defs₀) (Variants.lift 𝒱₀) (c.tc : Thread nD τ) none) Set.univ (armProg (HostLoop.branch v 1))
          (fun a => wp frame (wpE (Pipeline.defs (pcfgs (F := F)) defs₀) (Variants.lift 𝒱₀) (c.tc : Thread nD τ) none) Set.univ (k a) K) := by
  subst hv
  unfold VZ
  generalize HostLoop.branch (word m c) 1 = b
  rw [armProg_eq m]
  have key := Pipeline.wp_segs (pcfgs (F := F)) adm (pdats m) () cellOf_inj embR defs₀ 𝒱₀ L lv c
    (Q := fun a => wp frame (wpE (Pipeline.defs (pcfgs (F := F)) defs₀) (Variants.lift 𝒱₀) (c.tc : Thread nD τ) none) Set.univ (k a) K)
    (arm m b) Finset.univ _ _ (arm_pipes m b) (fun _ _ => Finset.mem_univ _) (arm_chains m b)
  iintro ⟨Hk, Hbd, Hh, HS, HG, #Hla⟩
  iapply key
  isplitl [Hk]
  · iintro ⟨Hbd, Hh, HS, -⟩
    iapply Hk
    isplitl [Hbd]; · iexact Hbd
    isplitl [Hh]; · iexact Hh
    iexact HS
  isplitl [Hbd]; · iexact Hbd
  isplitl [Hh HS]
  · isplitl [Hh]; · iexact Hh
    isplitl [HS]; · iexact HS
    iempintro
  isplitr; · iexact Hla
  iexact HG

set_option backward.isDefEq.respectTransparency.types false in
set_option maxHeartbeats 1000000 in
set_option maxRecDepth 20000 in
/-- The branch as one step: whatever the word, the arm it names runs. -/
def caseSeg : HostSeg (Ix := Unit) (Name := ℕ) (U := UU) (Lvl := ℕ) (pcfgs (F := F)) defs₀ 𝒱₀ L lv where
  prog := caseProg
  pre c := iprop(St (V5 m c) c ∗ Side c ∗ G c)
  post c := iprop(St (VZ m c) c ∗ Side c)
  run c {β} k K := by
    unfold caseProg
    rw [bind_assoc, wp_bind]
    iintro ⟨Hk, Hbd, ⟨Hh, HS, HG⟩, #Hla⟩
    iapply (StableHlo.wp_hlo_within (Variants.lift 𝒱₀) (c.tc : Thread nD τ) none Set.univ (Pipeline.sub_ucRefs _ (StableHlo.unary_bufs_sub ..))) $$ [Hbd Hh]
    · isplitl [Hbd]; · iexact Hbd
      iexact Hh
    iintro ⟨Hbd, Hh⟩
    rw [HostLoop.elt_apply, wp_ret]; imodintro
    rw [HostLoop.case_succ, wp_bind]
    iapply (arm_wp m c k K _ (by unfold word V6; rw [StableHlo.after_cons, StableHlo.after_nil]; generalize V5 m c = V; rfl))
    isplitl [Hk]; · iexact Hk
    isplitl [Hbd]; · iexact Hbd
    isplitl [Hh]; · unfold V6; rw [StableHlo.after_cons, StableHlo.after_nil]; iexact Hh
    isplitl [HS]; · iexact HS
    isplitl [HG]; · iexact HG
    iexact Hla

end Cert.Kernel.Run

end
-- ==== Proof.Kernel.Run.lean ====
module

public import proofs.«01_k».proof.Proof.Kernel.Program

@[expose] public section

noncomputable section

/-! The whole program run: it ends with every buffer as the last valuation says, the arguments unchanged and every
    semaphore counter at zero. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation afterRegion)

variable {F : FTy → Type} [BitOps F]

local notation "UU" => UR sig nD τ × UR sig nD τ
local notation "𝕄" => MT nD τ sig Unit (Elt F) ℕ UU ℕ

variable (m : (ℓ : Loc nD τ sig) → Buf (Elt F) ℓ) (ρ : Dev nD → PrngReg)

/-! ## No step writes an argument -/

section Keep
variable (c : Dev nD) (r : Ref sig .tc)

theorem V1_of (h : r ∉ ([main_v0] : List (Ref sig .tc))) : V1 m c r = V0 m c r :=
  StableHlo.after_of_writes_sub hostOps0 _ (StableHlo.forall_writes_sub_of_map rfl) h
theorem V2_of (h : ∀ w, Pipeline.arrRef spec0 w = r → (cfg0.win w).isOut = false) : V2 m c r = V1 m c r :=
  Pipeline.afterRegion_keeps (d0 m c) (V1 m c) launch0.win.arr_inj (Quantize.A_eq (fun c b => V1 m c b) c) r h
theorem V3_of (h : r ∉ ([main_v2] : List (Ref sig .tc))) : V3 m c r = V2 m c r :=
  StableHlo.after_of_writes_sub hostOps1 _ (StableHlo.forall_writes_sub_of_map rfl) h
theorem V4_of (h : ∀ w, Pipeline.arrRef spec1 w = r → (cfg1.win w).isOut = false) : V4 m c r = V3 m c r :=
  Pipeline.afterRegion_keeps (d1 m c) (V3 m c) launch1.win.arr_inj (Fold.A_eq (fun c b => V3 m c b) c) r h
theorem V5_of (h : r ∉ ([main_c, main_v4, main_v5, main_c_0, main_v6] : List (Ref sig .tc))) : V5 m c r = V4 m c r :=
  StableHlo.after_of_writes_sub hostOps2 _ (StableHlo.forall_writes_sub_of_map rfl) h
theorem V6_of (h : r ∉ ([main_v7] : List (Ref sig .tc))) : V6 m c r = V5 m c r :=
  StableHlo.after_of_writes_sub [rdOp] _ (StableHlo.forall_writes_sub_of_map rfl) h
theorem V7_of (h : r ∉ ([main_case0b0_v9] : List (Ref sig .tc))) : V7 m c r = V6 m c r :=
  StableHlo.after_of_writes_sub [wideOp] _ (StableHlo.forall_writes_sub_of_map rfl) h
theorem V8_of (h : r ∉ ([main_v8] : List (Ref sig .tc))) (h' : ∀ w, Pipeline.arrRef spec2 w = r → (cfg2.win w).isOut = false) :
    V8 m c r = V7 m c r :=
  (StableHlo.after_of_writes_sub [copyWide] _ (StableHlo.forall_writes_sub_of_map rfl) h).trans
    (Pipeline.afterRegion_keeps (d2 m c) (V7 m c) launch2.win.arr_inj (Wide.A_eq (fun c b => V7 m c b) c) r h')
theorem V9_of (h : r ∉ ([main_v8] : List (Ref sig .tc))) (h' : ∀ w, Pipeline.arrRef spec3 w = r → (cfg3.win w).isOut = false) :
    V9 m c r = V6 m c r :=
  (StableHlo.after_of_writes_sub [copyNarrow] _ (StableHlo.forall_writes_sub_of_map rfl) h).trans
    (Pipeline.afterRegion_keeps (d3 m c) (V6 m c) launch3.win.arr_inj (Narrow.A_eq (fun c b => V6 m c b) c) r h')

/-- Whatever the branch, a buffer that neither arm writes ends as it was after the read of the word. -/
theorem VZ_of (h : r ∉ ([main_v8, main_case0b0_v9] : List (Ref sig .tc)))
    (h2 : ∀ w, Pipeline.arrRef spec2 w = r → (cfg2.win w).isOut = false)
    (h3 : ∀ w, Pipeline.arrRef spec3 w = r → (cfg3.win w).isOut = false) : VZ m c r = V6 m c r := by
  have hv : r ∉ ([main_v8] : List (Ref sig .tc)) := fun e => h (by rw [List.mem_singleton.mp e]; exact List.mem_cons_self ..)
  have hb : r ∉ ([main_case0b0_v9] : List (Ref sig .tc)) := fun e => h (List.mem_cons_of_mem _ e)
  unfold VZ VA
  split
  · exact (V8_of m c r hv h2).trans (V7_of m c r hb)
  · exact V9_of m c r hv h3

end Keep

theorem VZ_arg0 (c : Dev nD) : VZ m c main_arg0 = m ((c : Thread nD τ).loc main_arg0) :=
  (VZ_of m c main_arg0 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))
theorem VZ_arg1 (c : Dev nD) : VZ m c main_arg1 = m ((c : Thread nD τ).loc main_arg1) :=
  (VZ_of m c main_arg1 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))
theorem VZ_arg2 (c : Dev nD) : VZ m c main_arg2 = m ((c : Thread nD τ).loc main_arg2) :=
  (VZ_of m c main_arg2 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))
theorem VZ_arg3 (c : Dev nD) : VZ m c main_arg3 = m ((c : Thread nD τ).loc main_arg3) :=
  (VZ_of m c main_arg3 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))

/-! ## The run -/

/-- The program's steps. -/
def segs : List (Seg (pcfgs (F := F)) adm (pdats m) () defs₀ 𝒱₀ L lv) :=
  [.host (ops G hostOps0 hostOps0_sub fresh0 (V0 m)), .region (reg0 m G), .host (ops G hostOps1 hostOps1_sub fresh1 (V2 m)),
   .region (reg1 m G), .host (ops G hostOps2 hostOps2_sub fresh2 (V4 m)), .host (caseSeg m)]

set_option backward.isDefEq.respectTransparency.types false in
theorem segs_chains (c : Dev nD) : Seg.ChainsAt c (fun c => iprop(St (V0 m c) c ∗ Side c ∗ G c)) (segs m)
    (fun c => iprop(St (VZ m c) c ∗ ∃ W, owes (c.tc : Thread nD τ) (0 : CellTallies nD τ sig Unit) W)) :=
  ⟨.rfl, .rfl, .rfl, .rfl, .rfl, .rfl, sep_mono .rfl (by unfold Side; iintro ⟨-, H⟩; iexact H)⟩

set_option backward.isDefEq.respectTransparency.types false in
/-- The launch's ghost state: one copy for the calls before the branch, one for those in it. -/
theorem launch_ghost : (ownU ((initOf (Pipeline.cells cfgs cellOf_inj) (Pipeline.launchToks cfgs cellOf_inj),
      initOf (Pipeline.cells cfgs cellOf_inj) (Pipeline.launchToks cfgs cellOf_inj)) : UU) : sProp 𝕄)
    ⊢ |={Set.univ}=> iprop(BI.own (embL (initOf (Pipeline.cells cfgs cellOf_inj) (Pipeline.launchToks cfgs cellOf_inj))) ∗ bigSep Finset.univ (G (F := F))) := by
  iintro H
  ihave H' := (ownU_pair (nD := nD) (sig := sig) (Ix := Unit) (Val := Elt F) (Name := ℕ) (Lvl := ℕ)
    (initOf (Pipeline.cells cfgs cellOf_inj) (Pipeline.launchToks cfgs cellOf_inj)) (initOf (Pipeline.cells cfgs cellOf_inj) (Pipeline.launchToks cfgs cellOf_inj))) $$ H
  icases H' with ⟨H1, H2⟩
  imod (Pipeline.fund_ghost (Ix := Unit) (Val := Elt F) (Name := ℕ) (U := UU) (Lvl := ℕ) cfgs embR cellOf_inj) $$ H2 with ⟨Hc, Ht⟩
  imodintro
  isplitl [H1]; · iexact H1
  have hj : iprop((bigSep Finset.univ fun c : Dev nD => bigSep Finset.univ fun p => Pipeline.cellsGhost cfgs embR p c)
      ∗ (bigSep Finset.univ fun c : Dev nD => bigSep Finset.univ fun p => (Pipeline.toksInit cfgs embR p c : sProp 𝕄))) ⊢ bigSep Finset.univ (G (F := F)) := by
    rw [← bigSep_sep']
    exact bigSep_mono fun c _ => by
      rw [← bigSep_sep']; exact BI.Entails.refl _
  iapply hj
  isplitl [Hc] <;> iassumption

set_option backward.isDefEq.respectTransparency.types false in
set_option maxHeartbeats 1000000 in
/-- The run: every buffer outside the calls' own memory ends at the last valuation, and every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = VZ m c b) ∧ r.2.sem = fun _ => 0) := by
  refine Pipeline.θ_run_regions_kit_dev_sems (pcfgs (F := F)) adm (pdats m) () cellOf_inj embL defs₀ 𝒱₀ L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          caseProg] from rfl]
      exact .rfl)
    (fun c => by unfold segs; simp only [Seg.pipes_host, Seg.pipes_region, Seg.pipes_nil]; decide) 0 (fun _ _ => rfl) G _ launch_ghost
    (T₀ := fun c => iprop(St (V0 m c) c ∗ Side c ∗ G c))
    (Tₙ := fun c => St (VZ m c) c)
    (hch := segs_chains m)
    (hinit := ?_) (QY := fun c s => ∀ b ∈ Pipeline.ucRefs τ sig, s.mem ((c : Thread nD τ).1, b) = VZ m c b)
    (hfin := fun c s' => ?_) (hQ := fun _ h hz => ⟨h, funext fun g => hz g (.inr (no_unscoped g.2))⟩)
  · refine Pipeline.initEach L lv fun c => ?_
    have hh := Pipeline.unscopedBufs_held (Ix := Unit) (Name := ℕ) (U := UU) (Lvl := ℕ) c (V0 m c)
    unfold Side
    iintro ⟨⟨Hb, -, HO, -, HP, HG⟩, -⟩
    imodintro
    isplitl [Hb]
    · iapply (show (unscopedBufs c fun b => m (c.tc.loc b)) ⊢ (St (V0 m c) c : sProp 𝕄) from hh ▸ BI.Entails.refl _); iexact Hb
    isplitl [HO HP]
    · isplitl [HP]
      · iexists _; iexact HP
      · iexists _; iexact HO
    iexact HG
  · unfold St StableHlo.held
    iintro ⟨Hh, HSI⟩
    ihave Hr := (pointsTo_read_all (Pipeline.ucRefs τ sig) (fun b => ((c : Thread nD τ).1, b)) (VZ m c) s') $$ [Hh HSI]
    · isplitl [Hh] <;> iassumption
    icases Hr with ⟨%h, HSI⟩
    imodintro
    isplitr
    · ipureintro; exact h
    · iexact HSI
where
  /-- The TensorCore has no semaphore outside the calls' own memory. -/
  no_unscoped : ∀ sm : SemLoc sig, sm.isScoped .tc = true := by decide

/-- The run at the program's results and arguments. -/
theorem run : θ_run defs (onTc (τ := τ) (main (F := F))) ⟨m, fun _ => 0, ρ⟩ (fun r => (∀ c : Dev nD,
      r.2.mem ((c.tc : Thread nD τ).loc main_v8) = VZ m c main_v8
      ∧ r.2.mem ((c.tc : Thread nD τ).loc main_v1_0) = VZ m c main_v1_0
      ∧ r.2.mem ((c.tc : Thread nD τ).loc main_v1_1) = VZ m c main_v1_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨h.1 c (Proc.devRef .tc main_v8) (Finset.mem_filter.mpr ⟨StableHlo.devRef_mem_tcRefs main_v8, by decide⟩),
       h.1 c (Proc.devRef .tc main_v1_0) (Finset.mem_filter.mpr ⟨StableHlo.devRef_mem_tcRefs main_v1_0, by decide⟩),
       h.1 c (Proc.devRef .tc main_v1_1) (Finset.mem_filter.mpr ⟨StableHlo.devRef_mem_tcRefs main_v1_1, by decide⟩),
       (h.1 c (Proc.devRef .tc main_arg0) (Finset.mem_filter.mpr ⟨StableHlo.devRef_mem_tcRefs main_arg0, by decide⟩)).trans (VZ_arg0 m c),
       (h.1 c (Proc.devRef .tc main_arg1) (Finset.mem_filter.mpr ⟨StableHlo.devRef_mem_tcRefs main_arg1, by decide⟩)).trans (VZ_arg1 m c),
       (h.1 c (Proc.devRef .tc main_arg2) (Finset.mem_filter.mpr ⟨StableHlo.devRef_mem_tcRefs main_arg2, by decide⟩)).trans (VZ_arg2 m c),
       (h.1 c (Proc.devRef .tc main_arg3) (Finset.mem_filter.mpr ⟨StableHlo.devRef_mem_tcRefs main_arg3, by decide⟩)).trans (VZ_arg3 m c)⟩, h.2⟩)
    (run_all m ρ)

end Cert.Kernel.Run

end
-- ==== Proof.KernelIdeal.Region.lean ====
module

public import proofs.«01_k».proof.Proof.Gen.KernelIdeal.Launch
public import Idealize.ShloMosaic.Lib.Pipeline.FrameBody
public import Idealize.ShloMosaic.Lib.Pipeline.RegionsLoop
public import Idealize.ShloMosaic.Lib.Pipeline.RegionArraysS
public import Idealize.ShloMosaic.Lib.Tactic

@[expose] public section

noncomputable section

/-! A kernel call as one step of the program: every buffer at a valuation before, and at the valuation with the call's
    arrays overwritten after. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "UU" => UR sig nD τ × UR sig nD τ
local notation "𝕄" => MT nD τ sig Unit (Elt F) ℕ UU ℕ

/-- No call has a prefetched table. -/
abbrev adm : (p : Fin 4) → (pcfgs (F := F) p).Adm := fun p => (cfgs p).toPCfg_adm

abbrev 𝒱₀ : Variants := Variants.none
/-- No core owes another anything: no level is assigned. -/
abbrev L : GSem nD τ sig → Finset Unit := fun _ => ∅
abbrev lv : GSem nD τ sig → Unit → ℕ := fun _ _ => 0

/-- What a core holds beside its buffers: its generator register, and that it owes nothing. -/
def Side (c : Dev nD) : sProp 𝕄 :=
  iprop((∃ r, prngReg c r) ∗ ∃ W, owes (c.tc : Thread nD τ) (0 : CellTallies nD τ sig Unit) W)

/-- Every buffer of core `c` outside the calls' own memory, whole, at the valuation `V`. -/
abbrev St (V : Valuation τ sig (Elt F)) (c : Dev nD) : sProp 𝕄 :=
  StableHlo.held (c.tc : Thread nD τ) (Pipeline.ucRefs τ sig) V

variable (pdats : (p : Fin 4) → (c : Dev nD) → Dat τ (Elt F) Unit ℕ UU ℕ (cfgs p) c)

-- the library's lemmas are stated over the pinned configuration, which unifies only by unfolding plain definitions
set_option backward.isDefEq.respectTransparency.types false in
set_option maxHeartbeats 1000000 in
/-- Call `p` as a step, entered from every buffer at `W c` and left with the call's arrays as its proof data compute
    them; `R c` rides along. -/
def reg (p : Fin 4) (kit : Pipeline.LaunchFacts (nD := nD) (τ := τ) cfgs p)
    (hbody : ∀ c, BodyObligation (pdats p c) (defs₀ (F := F)) 𝒱₀ () Set.univ)
    (hΦ : ∀ c t, (pdats p c).Φ t = Pipeline.ΦA (cfgs p).spec c)
    (howed : ∀ c t, (pdats p c).owed t = 0)
    (hrec : ∀ c, (pdats p c).recorded 0 = Set.univ)
    (hshare : ∀ c w, (pdats p c).share w = fullShare)
    (R : Dev nD → sProp 𝕄) (W : Dev nD → Valuation τ sig (Elt F))
    (hW : ∀ c w, (pdats p c).A w = W c (Proc.devRef .tc (Pipeline.arrRef (cfgs p).spec w))) :
    RegionSeg (pcfgs (F := F)) adm pdats () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(St (W c) c ∗ Side c ∗ R c)
  post c := iprop(St (Pipeline.afterRegion (pdats p c) (W c)) c ∗ Side c ∗ R c)
  X c := iprop(∃ r, prngReg c r)
  Y c := iprop(∃ r, prngReg c r)
  Z c := iprop(Pipeline.unscopedRest (Ix := Unit) (Name := ℕ) (U := UU) (Lvl := ℕ) (cfgs p).spec c (fun b => W c b) ∗ R c)
  hentry c := by
    rw [Pipeline.ownSems0_none]
    have hsplit := Pipeline.arrays_of_unscopedBufs (p := p) (pcfgs (F := F)) adm pdats kit.win kit.arr_whole c
      (hshare c) (fun b => W c b) (hW c)
    rw [Pipeline.unscopedBufs_held] at hsplit
    unfold Side
    iintro ⟨⟨Hub, ⟨HP, HO⟩, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr
      · ipureintro; exact fun x _ => Or.inl (by rw [hrec]; trivial)
      iexact HO
    isplitl [HP]; · iexact HP
    isplitl [Hrest] <;> iassumption
  hin c := by
    rw [hΦ]; unfold Pipeline.ΦA
    iintro ⟨HX, -, Hr⟩
    isplitl [Hr]; · iexact Hr
    iexact HX
  hout c := by
    rw [Pipeline.ownSems0_none, hΦ]; unfold Pipeline.ΦA
    iintro ⟨Hr, HX⟩
    isplitl [HX]; · iexact HX
    isplitr; · iempintro
    iexact Hr
  hexit c := by
    have hjoin := Pipeline.unscopedBufs_of_arrays (p := p) (pcfgs (F := F)) adm (Ix := Unit) (Name := ℕ) (U := UU) (Lvl := ℕ) kit.win kit.arr_whole c
      pdats (hshare c) (fun b => W c b) (fun b => Pipeline.afterRegion (pdats p c) (W c) b) ((pdats p c).arrAt · (cfgs p).N)
      (fun w => (Pipeline.afterRegion_arr (pdats p c) (W c) kit.win.arr_inj w).symm)
      (fun b hb => Pipeline.afterRegion_of_not_arr (pdats p c) (W c) fun w e => hb (Finset.mem_image.mpr ⟨w, Finset.mem_univ _, e.symm⟩))
    rw [Pipeline.unscopedBufs_held] at hjoin
    unfold Side
    iintro ⟨Ha, HO, HY, Hrest, HR⟩
    imodintro
    isplitl [Ha Hrest]
    · iapply hjoin; isplitl [Ha] <;> iassumption
    isplitl [HY HO]
    · isplitl [HY]; · iexact HY
      unfold Pipeline.Dat.owesAt Pipeline.owesWithin
      rw [howed]
      icases HO with ⟨%W, -, HO⟩; iexists W; iexact HO
    iexact HR

end Cert.KernelIdeal.Run

end
-- ==== Proof.KernelIdeal.Quantize.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the quantiser leaves: per block of 256 rows, the codes and the scales, from the block of `x`. -/

namespace Cert.KernelIdeal.Quantize

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`)`Dat.before_in_eq_fetched` (unfetched, the index has not moved), the window uncut and never idle. -/
theorem before0_0_of {c : Dev nD} (dat : Dat τ (Elt F) Unit ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-- The exponent search's lower bits. -/
def v80 (x0 : Vec F S256x7168 .bf16) : IVec S256x1 32 := k0_pay8 (k0_pay5 (View.ld x0 r0_0)) (k0_pay6 (View.ld x0 r0_0)) (k0_pay7 (View.ld x0 r0_0)) 16#32
/-- Where the exponent is neither 0 nor 255. -/
def v85 (x0 : Vec F S256x7168 .bf16) : IVec S256x1 1 := k0_pay9 (k0_pay5 (View.ld x0 r0_0)) (k0_pay6 (View.ld x0 r0_0)) (k0_pay7 (View.ld x0 r0_0)) 16#32

/-- Window 1's staging buffer after the body, from the input windows' blocks: its 1 store as pieces, LAST
    FIRST. -/
def out0_1 (x0 : Vec F S256x7168 .bf16) : Vec F S256x7168 .fp8e4m3 :=
  View.canon [⟨r0_0, k0_pay3 (k0_pay4 (View.ld x0 r0_0)) (v80 x0) (v85 x0) k0_pay10⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST. -/
def out0_2 (x0 : Vec F S256x7168 .bf16) : Vec F S256x1 .f32 :=
  View.canon [⟨r0_1, k0_pay2 (F := F) (v80 x0) (v85 x0) k0_pay10⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantize i arg1 harg1 arg2 harg2 arg3 harg3) K := by
  simp only [cc0_quantize_eq_skeleton]; unfold cc0_quantize_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact (View.read_writes_eq_canon _ _ _ (cover0_1 _)).trans rfl
  iexists _; isplitr
  swap; · iexact H2
  ipureintro
  exact (View.read_writes_eq_canon _ _ _ (cover0_2 _)).trans rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ UU ℕ cfg0 c where
  A w := V c (Pipeline.arrRef spec0 w)
  after w t := match w with
    | ⟨0, _⟩ => iblk V c 0 t
    | ⟨1, _⟩ => out0_1 (iblk V c 0 t)
    | ⟨2, _⟩ => out0_2 (iblk V c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl``Dat`). -/
theorem after0_0 (c : Dev nD) (t : Fin cfg0.N) : (dat V c).after 0 t = iblk V c 0 t := by dsimp only [dat]
theorem after0_1 (c : Dev nD) (t : Fin cfg0.N) : (dat V c).after 1 t = out0_1 (iblk V c 0 t) := by dsimp only [dat]
theorem after0_2 (c : Dev nD) (t : Fin cfg0.N) : (dat V c).after 2 t = out0_2 (iblk V c 0 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Quantize

end
-- ==== Proof.KernelIdeal.Fold.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the weight fold leaves: per block of columns, the folded weights, their column scale, and whether every group's exponent is in range. -/

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`)`Dat.before_in_eq_fetched` (unfetched, the index has not moved), the window uncut and never idle. -/
theorem before1_0_of {c : Dev nD} (dat : Dat τ (Elt F) Unit ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)`Dat.before_in_eq_fetched` (unfetched, the index has not moved), the window uncut and never idle. -/
theorem before1_1_of {c : Dev nD} (dat : Dat τ (Elt F) Unit ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)`Dat.before_in_eq_fetched` (unfetched, the index has not moved), the window uncut and never idle. -/
theorem before1_2_of {c : Dev nD} (dat : Dat τ (Elt F) Unit ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S56x256 := Rect.unit (s := S56x256) ![0, 0] S56x256.size inb_S56x256_S56x256_0_0
abbrev r1_1 : Rect S8x256 := Rect.unit (s := S8x256) ![0, 0] S8x256.size inb_S8x256_S8x256_0_0
abbrev r1_2 : Rect S1x256 := Rect.unit (s := S1x256) ![0, 0] S1x256.size inb_S1x256_S1x256_0_0
abbrev r1_3 : Rect S7168x256 := Rect.unit (s := S7168x256) ![0, 0] S7168x256.size inb_S7168x256_S7168x256_0_0

/-! ## What the body leaves in each output window's buffer -/

/-- The exponents of a block of group scales. -/
def v77 (x1 : Vec F S56x256 .f32) : IVec S56x256 32 := k1_pay6 (k1_pay3 (View.ld x1 r1_0)) (k1_pay4 (View.ld x1 r1_0)) k1_pay5
/-- The largest exponent of each column. -/
def v79 (x1 : Vec F S56x256 .f32) : IVec S1x256 32 := k1_pay7 (k1_pay3 (View.ld x1 r1_0)) (k1_pay4 (View.ld x1 r1_0)) k1_pay5
/-- Each exponent relative to its column's largest. -/
def v83 (x1 : Vec F S56x256 .f32) : IVec S56x256 32 := k1_pay8 (k1_pay3 (View.ld x1 r1_0)) (k1_pay4 (View.ld x1 r1_0)) k1_pay5

/-- Window 3's staging buffer after the body, from the input windows' blocks: its 1 store as pieces, LAST
    FIRST. -/
def out1_3 (i : grid1.Coords) (x0 : Vec F S7168x256 .i8) (x1 : Vec F S56x256 .f32) (x2 : Vec F S1x256 .f32) : Vec F S7168x256 .fp8e4m3 :=
  View.canon [⟨r1_3, k1_pay1 (BitVec.ofNat 32 (i 0).val) (k1_pay11 (k1_pay2 (View.ld x1 r1_0)) (v83 x1)) (View.ld x0 r1_3)⟩]

/-- Its stores tile the buffer (checked by evaluation), so they cover it. -/
theorem cover1_3 (p0 : Vec F S7168x256 .fp8e4m3) (y : S7168x256.Idx) :
    ∃ pc ∈ ([⟨r1_3, p0⟩] : List (View.Piece (Elt F) S7168x256 .fp8e4m3)), y ∈ pc.1.set :=
  View.cover_of_tiled [⟨r1_3, p0⟩] S7168x256.size (by rfl) y

/-- Window 4's staging buffer after the body, from the input windows' blocks: its 1 store as pieces, LAST
    FIRST. -/
def out1_4 (i : grid1.Coords) (x0 : Vec F S7168x256 .i8) (x1 : Vec F S56x256 .f32) (x2 : Vec F S1x256 .f32) : Vec F S1x256 .f32 :=
  View.canon [⟨r1_2, k1_pay12 (v79 (F := F) x1) (View.ld x2 r1_2)⟩]

/-- Its stores tile the buffer (checked by evaluation), so they cover it. -/
theorem cover1_4 (p0 : Vec F S1x256 .f32) (y : S1x256.Idx) :
    ∃ pc ∈ ([⟨r1_2, p0⟩] : List (View.Piece (Elt F) S1x256 .f32)), y ∈ pc.1.set :=
  View.cover_of_tiled [⟨r1_2, p0⟩] S1x256.size (by rfl) y

/-- Window 5's staging buffer after the body, from the input windows' blocks: its 1 store as pieces, LAST
    FIRST. -/
def out1_5 (i : grid1.Coords) (x0 : Vec F S7168x256 .i8) (x1 : Vec F S56x256 .f32) (x2 : Vec F S1x256 .f32) : Vec F S8x256 .i32 :=
  View.canon [⟨r1_1, k1_pay10 (v77 x1) (v79 x1) (v83 x1) (k1_pay9 (k1_pay2 (View.ld x1 r1_0)) (k1_pay3 (View.ld x1 r1_0)) (k1_pay4 (View.ld x1 r1_0)) k1_pay5)⟩]

/-- Its stores tile the buffer (checked by evaluation), so they cover it. -/
theorem cover1_5 (p0 : Vec F S8x256 .i32) (y : S8x256.Idx) :
    ∃ pc ∈ ([⟨r1_1, p0⟩] : List (View.Piece (Elt F) S8x256 .i32)), y ∈ pc.1.set :=
  View.cover_of_tiled [⟨r1_1, p0⟩] S8x256.size (by rfl) y

/-! ## The body's triple -/

set_option maxHeartbeats 4000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel (c : Dev nD) (E : Set ℕ) (i : grid1.Coords) (arg2 : Memref sig .tc .vmem S7168x256 .i8) (harg2 : arg2.IsWhole) (arg3 : Memref sig .tc .vmem S56x256 .f32) (harg3 : arg3.IsWhole) (arg4 : Memref sig .tc .vmem S1x256 .f32) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S8x256 .i32) (harg7 : arg7.IsWhole)
    (x0 : Vec F S7168x256 .i8) (x1 : Vec F S56x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 i x0 x1 x2) ∗ owns (c : Thread nD τ) arg6 fullShare (out1_4 i x0 x1 x2) ∗ owns (c : Thread nD τ) arg7 fullShare (out1_5 i x0 x1 x2)) -∗ K ⟨⟩))
      ⊢ wp frame (wpE (defs₀ (F := F)) Variants.none c none) E (cc1_fold_weights i arg2 harg2 arg3 harg3 arg4 harg4 arg5 harg5 arg6 harg6 arg7 harg7) K := by
  simp only [cc1_fold_weights_eq_skeleton]; unfold cc1_fold_weights_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of the one pipeline on core `c`: the arrays as the region finds them (`V`); after the body at
    point `t` each input's buffer at its block and each output's at `out1_W` of the input blocks; the invariant the
    class's; nothing owed;
    full shares. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out1_3 (grid1.coords t) (iblk V c 0 t) (iblk V c 1 t) (iblk V c 2 t)
    | ⟨4, _⟩ => out1_4 (grid1.coords t) (iblk V c 0 t) (iblk V c 1 t) (iblk V c 2 t)
    | ⟨5, _⟩ => out1_5 (grid1.coords t) (iblk V c 0 t) (iblk V c 1 t) (iblk V c 2 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`, never `rfl``Dat`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = out1_3 (grid1.coords t) (iblk V c 0 t) (iblk V c 1 t) (iblk V c 2 t) := by dsimp only [dat]
theorem after1_4 (c : Dev nD) (t : Fin cfg1.N) : (dat V c).after 4 t = out1_4 (grid1.coords t) (iblk V c 0 t) (iblk V c 1 t) (iblk V c 2 t) := by dsimp only [dat]
theorem after1_5 (c : Dev nD) (t : Fin cfg1.N) : (dat V c).after 5 t = out1_5 (grid1.coords t) (iblk V c 0 t) (iblk V c 1 t) (iblk V c 2 t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks (`before1_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).Φ t.succ = (dat V c).Φ t.castSucc from rfl,
    show (dat V c).owesAt () t.succ = (dat V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Fold

end
-- ==== Proof.KernelIdeal.Wide.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the bf16 product leaves: per block, the product with the weights dequantised in the block. -/

namespace Cert.KernelIdeal.Wide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`)`Dat.before_in_eq_fetched` (unfetched, the index has not moved), the window uncut and never idle. -/
theorem before2_0_of {c : Dev nD} (dat : Dat τ (Elt F) Unit ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)`Dat.before_in_eq_fetched` (unfetched, the index has not moved), the window uncut and never idle. -/
theorem before2_1_of {c : Dev nD} (dat : Dat τ (Elt F) Unit ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)`Dat.before_in_eq_fetched` (unfetched, the index has not moved), the window uncut and never idle. -/
theorem before2_2_of {c : Dev nD} (dat : Dat τ (Elt F) Unit ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`)`Dat.before_in_eq_fetched` (unfetched, the index has not moved), the window uncut and never idle. -/
theorem before2_3_of {c : Dev nD} (dat : Dat τ (Elt F) Unit ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`)`Dat.before_in_eq_fetched` (unfetched, the index has not moved), the window uncut and never idle. -/
theorem before2_4_of {c : Dev nD} (dat : Dat τ (Elt F) Unit ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S56x256 := Rect.unit (s := S56x256) ![0, 0] S56x256.size inb_S56x256_S56x256_0_0
abbrev r2_1 : Rect S7168x256 := Rect.unit (s := S7168x256) ![0, 0] S7168x256.size inb_S7168x256_S7168x256_0_0
abbrev r2_2 : Rect S512x7168 := Rect.unit (s := S512x7168) ![0, 0] S512x7168.size inb_S512x7168_S512x7168_0_0
abbrev r2_3 : Rect S512x1 := Rect.unit (s := S512x1) ![0, 0] S512x1.size inb_S512x1_S512x1_0_0
abbrev r2_4 : Rect S1x256 := Rect.unit (s := S1x256) ![0, 0] S1x256.size inb_S1x256_S1x256_0_0
abbrev r2_5 : Rect S512x256 := Rect.unit (s := S512x256) ![0, 0] S512x256.size inb_S512x256_S512x256_0_0

/-! ## What the body leaves in each output window's buffer -/

/-- Window 5's staging buffer after the body, from the input windows' blocks: its 1 store as pieces, LAST
    FIRST. -/
def out2_5 (i : grid2.Coords) (x0 : Vec F S512x7168 .fp8e4m3) (x1 : Vec F S7168x256 .i8) (x2 : Vec F S56x256 .f32) (x3 : Vec F S512x1 .f32) (x4 : Vec F S1x256 .f32) : Vec F S512x256 .bf16 :=
  View.canon [⟨r2_5, k2_pay1 i (View.ld x2 r2_0) (View.ld x1 r2_1) (View.ld x0 r2_2) (View.ld x3 r2_3) (View.ld x4 r2_4)⟩]

/-- Its stores tile the buffer (checked by evaluation), so they cover it. -/
theorem cover2_5 (p0 : Vec F S512x256 .bf16) (y : S512x256.Idx) :
    ∃ pc ∈ ([⟨r2_5, p0⟩] : List (View.Piece (Elt F) S512x256 .bf16)), y ∈ pc.1.set :=
  View.cover_of_tiled [⟨r2_5, p0⟩] S512x256.size (by rfl) y

/-! ## The body's triple -/

set_option maxHeartbeats 4000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel (c : Dev nD) (E : Set ℕ) (i : grid2.Coords) (arg3 : Memref sig .tc .vmem S512x7168 .fp8e4m3) (harg3 : arg3.IsWhole) (arg4 : Memref sig .tc .vmem S7168x256 .i8) (harg4 : arg4.IsWhole) (arg5 : Memref sig .tc .vmem S56x256 .f32) (harg5 : arg5.IsWhole) (arg6 : Memref sig .tc .vmem S512x1 .f32) (harg6 : arg6.IsWhole) (arg7 : Memref sig .tc .vmem S1x256 .f32) (harg7 : arg7.IsWhole) (arg8 : Memref sig .tc .vmem S512x256 .bf16) (harg8 : arg8.IsWhole)
    (x0 : Vec F S512x7168 .fp8e4m3) (x1 : Vec F S7168x256 .i8) (x2 : Vec F S56x256 .f32) (x3 : Vec F S512x1 .f32) (x4 : Vec F S1x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out2_5 i x0 x1 x2 x3 x4)) -∗ K ⟨⟩))
      ⊢ wp frame (wpE (defs₀ (F := F)) Variants.none c none) E (cc2_matmul_bf16 i arg3 harg3 arg4 harg4 arg5 harg5 arg6 harg6 arg7 harg7 arg8 harg8) K := by
  simp only [cc2_matmul_bf16_eq_skeleton]; unfold cc2_matmul_bf16_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the one pipeline on core `c`: the arrays as the region finds them (`V`); after the body at
    point `t` each input's buffer at its block and each output's at `out2_W` of the input blocks; the invariant the
    class's; nothing owed;
    full shares. -/
def dat (c : Dev nD) : Dat τ (Elt F) Unit ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out2_5 (grid2.coords t) (iblk V c 0 t) (iblk V c 1 t) (iblk V c 2 t) (iblk V c 3 t) (iblk V c 4 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`, never `rfl``Dat`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = out2_5 (grid2.coords t) (iblk V c 0 t) (iblk V c 1 t) (iblk V c 2 t) (iblk V c 3 t) (iblk V c 4 t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks (`before2_W`), so `sound_kernel` applies; the invariant and
    the core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).Φ t.succ = (dat V c).Φ t.castSucc from rfl,
    show (dat V c).owesAt () t.succ = (dat V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Wide

end
-- ==== Proof.KernelIdeal.Narrow.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysS
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one call of the fp8 product leaves: per block, the product with the folded weights. -/

namespace Cert.KernelIdeal.Narrow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The ghost state of the program: two copies of the pipelines' algebra.
local notation "UU" => UR sig nD τ × UR sig nD τ
local notation "𝕄" => MT nD τ sig Unit (Elt F) ℕ UU ℕ

-- Core `c`'s buffers as the call finds them.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`)`Dat.before_in_eq_fetched` (unfetched, the index has not moved), the window uncut and never idle. -/
theorem before3_0_of {c : Dev nD} (dat : Dat τ (Elt F) Unit ℕ UU ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)`Dat.before_in_eq_fetched` (unfetched, the index has not moved), the window uncut and never idle. -/
theorem before3_1_of {c : Dev nD} (dat : Dat τ (Elt F) Unit ℕ UU ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)`Dat.before_in_eq_fetched` (unfetched, the index has not moved), the window uncut and never idle. -/
theorem before3_2_of {c : Dev nD} (dat : Dat τ (Elt F) Unit ℕ UU ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`)`Dat.before_in_eq_fetched` (unfetched, the index has not moved), the window uncut and never idle. -/
theorem before3_3_of {c : Dev nD} (dat : Dat τ (Elt F) Unit ℕ UU ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_0 : Rect S1024x7168 := Rect.unit (s := S1024x7168) ![0, 0] S1024x7168.size inb_S1024x7168_S1024x7168_0_0
abbrev r3_1 : Rect S7168x1024 := Rect.unit (s := S7168x1024) ![0, 0] S7168x1024.size inb_S7168x1024_S7168x1024_0_0
abbrev r3_2 : Rect S1024x1 := Rect.unit (s := S1024x1) ![0, 0] S1024x1.size inb_S1024x1_S1024x1_0_0
abbrev r3_3 : Rect S1x1024 := Rect.unit (s := S1x1024) ![0, 0] S1x1024.size inb_S1x1024_S1x1024_0_0
abbrev r3_4 : Rect S1024x1024 := Rect.unit (s := S1024x1024) ![0, 0] S1024x1024.size inb_S1024x1024_S1024x1024_0_0

/-! ## What the body leaves in each output window's buffer -/

/-- Window 4's staging buffer after the body, from the input windows' blocks: its 1 store as pieces, LAST
    FIRST. -/
def out3_4 (x0 : Vec F S1024x7168 .fp8e4m3) (x1 : Vec F S7168x1024 .fp8e4m3) (x2 : Vec F S1024x1 .f32) (x3 : Vec F S1x1024 .f32) : Vec F S1024x1024 .bf16 :=
  View.canon [⟨r3_4, k3_pay1 (View.ld x0 r3_0) (View.ld x1 r3_1) (View.ld x2 r3_2) (View.ld x3 r3_3)⟩]

/-- Its stores tile the buffer (checked by evaluation), so they cover it. -/
theorem cover3_4 (p0 : Vec F S1024x1024 .bf16) (y : S1024x1024.Idx) :
    ∃ pc ∈ ([⟨r3_4, p0⟩] : List (View.Piece (Elt F) S1024x1024 .bf16)), y ∈ pc.1.set :=
  View.cover_of_tiled [⟨r3_4, p0⟩] S1024x1024.size (by rfl) y

/-! ## The body's triple -/

set_option maxHeartbeats 4000000 in
/-- The kernel body on whole staging memrefs, the inputs' at read contents `xW` and the outputs' at anything, runs to
    the continuation holding the inputs' as they were and each output's at `out3_W` of the inputs': the printed functions
    are their skeletons (`Gen.*_eq_skeleton`), which `sl_exec` runs, through every part call. -/
theorem sound_kernel (c : Dev nD) (E : Set ℕ) (i : grid3.Coords) (arg2 : Memref sig .tc .vmem S1024x7168 .fp8e4m3) (harg2 : arg2.IsWhole) (arg3 : Memref sig .tc .vmem S7168x1024 .fp8e4m3) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .bf16) (harg6 : arg6.IsWhole)
    (x0 : Vec F S1024x7168 .fp8e4m3) (x1 : Vec F S7168x1024 .fp8e4m3) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3_matmul_fp8 i arg2 harg2 arg3 harg3 arg4 harg4 arg5 harg5 arg6 harg6) K := by
  simp only [cc3_matmul_fp8_eq_skeleton]; unfold cc3_matmul_fp8_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the one pipeline on core `c`: the arrays as the region finds them (`V`); after the body at
    point `t` each input's buffer at its block and each output's at `out3_W` of the input blocks; the invariant the
    class's; nothing owed;
    full shares. -/
def dat (c : Dev nD) : Dat τ (Elt F) Unit ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out3_4 (iblk V c 0 t) (iblk V c 1 t) (iblk V c 2 t) (iblk V c 3 t)
  Φ _ := Pipeline.ΦA spec3 c
  q _ := fullShare
  owed _ := 0

/-- The proof data's arrays are the region-entry contents: the proof data's definition projected (`dsimp`), so that
    `V` — a fold over @main's host prefix, long for some programs — is never unfolded to check it. -/
theorem A_eq (c : Dev nD) (w : Fin cfg3.W) : (dat V c).A w = V c (Pipeline.arrRef spec3 w) := by
  dsimp only [dat]

/-- What the body leaves, window by window (the proof data's `match` reduced by `dsimp`, never `rfl``Dat`). -/
theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = out3_4 (iblk V c 0 t) (iblk V c 1 t) (iblk V c 2 t) (iblk V c 3 t) := by dsimp only [dat]

/-- Each input's current staging buffer holds its block at every point, fetched there or not (`beforeK_W_of`). -/
theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d

/-! ## The body obligation, at a generic point -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the inputs' memrefs hold their blocks (`before3_W`), so `sound_kernel` applies; the invariant and
    the core's `owes` pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3]
  rw [show (dat V c).Φ t.succ = (dat V c).Φ t.castSucc from rfl,
    show (dat V c).owesAt () t.succ = (dat V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.Narrow

end
-- ==== Proof.KernelIdeal.Program.lean ====
module

public import proofs.«01_k».proof.Proof.KernelIdeal.Region
public import proofs.«01_k».proof.Proof.KernelIdeal.Quantize
public import proofs.«01_k».proof.Proof.KernelIdeal.Fold
public import proofs.«01_k».proof.Proof.KernelIdeal.Wide
public import proofs.«01_k».proof.Proof.KernelIdeal.Narrow
public import Idealize.ShloMosaic.Lib.HostLoop.Rules

@[expose] public section

noncomputable section

/-! The buffers' contents from one item of the program to the next: the host operations, the quantiser, the weight
    fold, and the branch on whether every group's scale folded exactly. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation afterRegion)

variable {F : FTy → Type} [FloatOps F]

local notation "UU" => UR sig nD τ × UR sig nD τ
local notation "𝕄" => MT nD τ sig Unit (Elt F) ℕ UU ℕ

variable (m : (ℓ : Loc nD τ sig) → Buf (Elt F) ℓ)

/-- The read of the branch's word: the predicate widened to 32 bits. -/
abbrev rdOp : HloOp τ sig (Elt F) :=
  StableHlo.unary main_v6 main_v7 ((extui 32 · natLt_1_32) : (⟨S_, .i1⟩ : BufTy).Contents (Elt F) → (⟨S_, .i32⟩ : BufTy).Contents (Elt F))
/-- The first arm's operation before its call: the column scales as a row. -/
abbrev wideOp : HloOp τ sig (Elt F) :=
  StableHlo.reshape main_arg3 main_case0b0_v9 (rfl : (.f32 : EltTy) = .f32) shapeCasts_S10240_S1x10240
/-- Each arm's copy of its call's result into the branch's result. -/
abbrev copyWide : HloOp τ sig (Elt F) := StableHlo.unary main_case0b0_v10 main_v8 id
abbrev copyNarrow : HloOp τ sig (Elt F) := StableHlo.unary main_case0b1_v9 main_v8 id

/-- Core `c`'s buffers at launch, -/
def V0 (c : Dev nD) : Valuation τ sig (Elt F) := fun b => m (c, b)
/-- before the quantiser, -/
def V1 (c : Dev nD) : Valuation τ sig (Elt F) := StableHlo.after hostOps0 (V0 m c)
/-- the quantiser's proof data there, -/
def d0 (c : Dev nD) : Dat τ (Elt F) Unit ℕ UU ℕ cfg0 c := Quantize.dat (fun c b => V1 m c b) c
/-- after it, -/
def V2 (c : Dev nD) : Valuation τ sig (Elt F) := afterRegion (d0 m c) (V1 m c)
/-- before the weight fold, -/
def V3 (c : Dev nD) : Valuation τ sig (Elt F) := StableHlo.after hostOps1 (V2 m c)
/-- the fold's proof data there, -/
def d1 (c : Dev nD) : Dat τ (Elt F) Unit ℕ UU ℕ cfg1 c := Fold.dat (fun c b => V3 m c b) c
/-- after it, -/
def V4 (c : Dev nD) : Valuation τ sig (Elt F) := afterRegion (d1 m c) (V3 m c)
/-- before the branch, -/
def V5 (c : Dev nD) : Valuation τ sig (Elt F) := StableHlo.after hostOps2 (V4 m c)
/-- after the read of its word, -/
def V6 (c : Dev nD) : Valuation τ sig (Elt F) := StableHlo.after [rdOp] (V5 m c)
/-- in the first arm, before its call, -/
def V7 (c : Dev nD) : Valuation τ sig (Elt F) := StableHlo.after [wideOp] (V6 m c)
/-- that call's proof data, -/
def d2 (c : Dev nD) : Dat τ (Elt F) Unit ℕ UU ℕ cfg2 c := Wide.dat (fun c b => V7 m c b) c
/-- after the first arm, -/
def V8 (c : Dev nD) : Valuation τ sig (Elt F) := StableHlo.after [copyWide] (afterRegion (d2 m c) (V7 m c))
/-- the second arm's call's proof data, -/
def d3 (c : Dev nD) : Dat τ (Elt F) Unit ℕ UU ℕ cfg3 c := Narrow.dat (fun c b => V6 m c b) c
/-- after the second arm. -/
def V9 (c : Dev nD) : Valuation τ sig (Elt F) := StableHlo.after [copyNarrow] (afterRegion (d3 m c) (V6 m c))

/-- The word that the branch reads. -/
def word (c : Dev nD) : BitVec 32 := V6 m c main_v7 HostLoop.idx0
/-- The buffers after arm `b`. -/
def VA (b : Fin 2) (c : Dev nD) : Valuation τ sig (Elt F) := if b = 0 then V8 m c else V9 m c
/-- Core `c`'s buffers at the end. -/
def VZ (c : Dev nD) : Valuation τ sig (Elt F) := VA m (HostLoop.branch (word m c) 1) c

/-- The calls' proof data. -/
def pdats : (p : Fin 4) → (c : Dev nD) → Dat τ (Elt F) Unit ℕ UU ℕ (cfgs p) c
  | 0 => d0 m | 1 => d1 m | 2 => d2 m | 3 => d3 m
  | ⟨_ + 4, h⟩ => absurd h (Nat.not_lt.2 (Nat.le_add_left _ _))

/-- The ghost state of the branch's calls, taken from the second copy of the pipelines' algebra. -/
abbrev G (c : Dev nD) : sProp 𝕄 := Pipeline.ghostOn (pcfgs (F := F)) adm embR Finset.univ c

/-! ## The four calls as steps -/

section Steps

set_option backward.isDefEq.respectTransparency.types false in
def reg0 (R : Dev nD → sProp 𝕄) : RegionSeg (pcfgs (F := F)) adm (pdats m) () defs₀ 𝒱₀ L lv 0 :=
  reg (pdats m) 0 launch0 (fun c => Quantize.body_obligation (fun c b => V1 m c b) c) (fun _ _ => rfl) (fun _ _ => rfl) (fun _ => rfl)
    (fun c => (d0 m c).share_full fun _ => rfl) R (V1 m) (Quantize.A_eq (fun c b => V1 m c b))
set_option backward.isDefEq.respectTransparency.types false in
def reg1 (R : Dev nD → sProp 𝕄) : RegionSeg (pcfgs (F := F)) adm (pdats m) () defs₀ 𝒱₀ L lv 1 :=
  reg (pdats m) 1 launch1 (fun c => Fold.body_obligation (fun c b => V3 m c b) c) (fun _ _ => rfl) (fun _ _ => rfl) (fun _ => rfl)
    (fun c => (d1 m c).share_full fun _ => rfl) R (V3 m) (Fold.A_eq (fun c b => V3 m c b))
set_option backward.isDefEq.respectTransparency.types false in
def reg2 (R : Dev nD → sProp 𝕄) : RegionSeg (pcfgs (F := F)) adm (pdats m) () defs₀ 𝒱₀ L lv 2 :=
  reg (pdats m) 2 launch2 (fun c => Wide.body_obligation (fun c b => V7 m c b) c) (fun _ _ => rfl) (fun _ _ => rfl) (fun _ => rfl)
    (fun c => (d2 m c).share_full fun _ => rfl) R (V7 m) (Wide.A_eq (fun c b => V7 m c b))
set_option backward.isDefEq.respectTransparency.types false in
def reg3 (R : Dev nD → sProp 𝕄) : RegionSeg (pcfgs (F := F)) adm (pdats m) () defs₀ 𝒱₀ L lv 3 :=
  reg (pdats m) 3 launch3 (fun c => Narrow.body_obligation (fun c b => V6 m c b) c) (fun _ _ => rfl) (fun _ _ => rfl) (fun _ => rfl)
    (fun c => (d3 m c).share_full fun _ => rfl) R (V6 m) (Narrow.A_eq (fun c b => V6 m c b))

/-- A stretch of host operations over every buffer. -/
abbrev ops (R : Dev nD → sProp 𝕄) (l : List (HloOp τ sig (Elt F))) (hs : l.Forall fun op => op.bufs ⊆ StableHlo.tcRefs τ sig) (hf : l.Forall fun op => op.fresh = ∅)
    (V : Dev nD → Valuation τ sig (Elt F)) :
    HostSeg (Ix := Unit) (Name := ℕ) (U := UU) (Lvl := ℕ) (pcfgs (F := F)) defs₀ 𝒱₀ L lv :=
  HostSeg.ofOps _ _ _ _ _ (Pipeline.ucRefs τ sig) l
    (fun op h => Pipeline.sub_ucRefs op ((List.forall_iff_forall_mem.mp hs) op h))
    (fun op h => (List.forall_iff_forall_mem.mp hf) op h) V (fun c => iprop(Side c ∗ R c))

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- The arms' steps. -/
def arm : Fin 2 → List (Seg (pcfgs (F := F)) adm (pdats m) () defs₀ 𝒱₀ L lv)
  | 0 => [.host (ops (fun _ => BI.emp) [wideOp] (StableHlo.reshape_bufs_sub ..) rfl (V6 m)), .region (reg2 m (fun _ => BI.emp)),
          .host (ops (fun _ => BI.emp) [copyWide] (StableHlo.unary_bufs_sub ..) rfl (fun c => afterRegion (d2 m c) (V7 m c)))]
  | 1 => [.region (reg3 m (fun _ => BI.emp)),
          .host (ops (fun _ => BI.emp) [copyNarrow] (StableHlo.unary_bufs_sub ..) rfl (fun c => afterRegion (d3 m c) (V6 m c)))]

end Steps

/-- The arms as printed. -/
abbrev armProg : Fin 2 → Prog (TpuEff nD τ sig (Elt F) (Pipeline.Sig Λ₀ (Fin 4) fun p => (pcfgs (F := F) p).Adm) .tc) PUnit
  | 0 => do
      hlo rfl (wideOp (F := F)) (fun _ => .ret ⟨⟩)
      Prog.lift (.customCall (Pipeline.entry 2) ())
      hlo rfl (copyWide (F := F)) (fun _ => .ret ⟨⟩)
      pure ⟨⟩
  | 1 => do
      Prog.lift (.customCall (Pipeline.entry 3) ())
      hlo rfl (copyNarrow (F := F)) (fun _ => .ret ⟨⟩)
      pure ⟨⟩
  | ⟨_ + 2, h⟩ => absurd h (Nat.not_lt.2 (Nat.le_add_left _ _))

theorem armProg_eq (b : Fin 2) : armProg (F := F) b = Seg.run (arm m b) := by
  rw [Seg.run_eq_chain]
  fin_cases b
  · show armProg (F := F) 0 = _
    chain_rfl
  · show armProg (F := F) 1 = _
    chain_rfl

/-- The branch: the read of its word, and the arm that the word names. -/
abbrev caseProg : Prog (TpuEff nD τ sig (Elt F) (Pipeline.Sig Λ₀ (Fin 4) fun p => (pcfgs (F := F) p).Adm) .tc) PUnit := do
  let x ← hlo rfl (rdOp (F := F)) (HostLoop.elt main_v7)
  HostLoop.case 2 x armProg

theorem arm_pipes (b : Fin 2) : (Seg.pipes (arm m b)).Nodup := by
  match b with
  | 0 => exact List.nodup_singleton _
  | 1 => exact List.nodup_singleton _

set_option backward.isDefEq.respectTransparency.types false in
theorem arm_chains (b : Fin 2) : Seg.Chains (fun c => iprop(St (V6 m c) c ∗ Side c ∗ BI.emp)) (arm m b)
    (fun c => iprop(St (VA m b c) c ∗ Side c ∗ BI.emp)) := by
  match b with
  | 0 => exact ⟨fun _ => .rfl, fun _ => .rfl, fun _ => .rfl, fun _ => .rfl⟩
  | 1 => exact ⟨fun _ => .rfl, fun _ => .rfl, fun _ => .rfl⟩

set_option backward.isDefEq.respectTransparency.types false in
set_option maxHeartbeats 1000000 in
set_option maxRecDepth 20000 in
/-- The arm that the word names, run from the buffers after the read. -/
theorem arm_wp (c : Dev nD) {β : Type} (k : PUnit → Prog (TpuEff nD τ sig (Elt F) (Pipeline.Sig Λ₀ (Fin 4) fun p => (pcfgs (F := F) p).Adm) .tc) β)
    (K : β → sProp 𝕄) (v : BitVec 32) (hv : v = word m c) :
    iprop((boundary (c.tc : Thread nD τ) ∗ (St (VZ m c) c ∗ Side c) -∗ wp frame (wpE (Pipeline.defs (pcfgs (F := F)) defs₀) (Variants.lift 𝒱₀) (c.tc : Thread nD τ) none) Set.univ (k ⟨⟩) K)
        ∗ boundary (c.tc : Thread nD τ) ∗ St (V6 m c) c ∗ Side c ∗ G c ∗ levAts L lv)
      ⊢ wp frame (wpE (Pipeline.defs (pcfgs (F := F)) defs₀) (Variants.lift 𝒱₀) (c.tc : Thread nD τ) none) Set.univ (armProg (HostLoop.branch v 1))
          (fun a => wp frame (wpE (Pipeline.defs (pcfgs (F := F)) defs₀) (Variants.lift 𝒱₀) (c.tc : Thread nD τ) none) Set.univ (k a) K) := by
  subst hv
  unfold VZ
  generalize HostLoop.branch (word m c) 1 = b
  rw [armProg_eq m]
  have key := Pipeline.wp_segs (pcfgs (F := F)) adm (pdats m) () cellOf_inj embR defs₀ 𝒱₀ L lv c
    (Q := fun a => wp frame (wpE (Pipeline.defs (pcfgs (F := F)) defs₀) (Variants.lift 𝒱₀) (c.tc : Thread nD τ) none) Set.univ (k a) K)
    (arm m b) Finset.univ _ _ (arm_pipes m b) (fun _ _ => Finset.mem_univ _) (arm_chains m b)
  iintro ⟨Hk, Hbd, Hh, HS, HG, #Hla⟩
  iapply key
  isplitl [Hk]
  · iintro ⟨Hbd, Hh, HS, -⟩
    iapply Hk
    isplitl [Hbd]; · iexact Hbd
    isplitl [Hh]; · iexact Hh
    iexact HS
  isplitl [Hbd]; · iexact Hbd
  isplitl [Hh HS]
  · isplitl [Hh]; · iexact Hh
    isplitl [HS]; · iexact HS
    iempintro
  isplitr; · iexact Hla
  iexact HG

set_option backward.isDefEq.respectTransparency.types false in
set_option maxHeartbeats 1000000 in
set_option maxRecDepth 20000 in
/-- The branch as one step: whatever the word, the arm it names runs. -/
def caseSeg : HostSeg (Ix := Unit) (Name := ℕ) (U := UU) (Lvl := ℕ) (pcfgs (F := F)) defs₀ 𝒱₀ L lv where
  prog := caseProg
  pre c := iprop(St (V5 m c) c ∗ Side c ∗ G c)
  post c := iprop(St (VZ m c) c ∗ Side c)
  run c {β} k K := by
    unfold caseProg
    rw [bind_assoc, wp_bind]
    iintro ⟨Hk, Hbd, ⟨Hh, HS, HG⟩, #Hla⟩
    iapply (StableHlo.wp_hlo_within (Variants.lift 𝒱₀) (c.tc : Thread nD τ) none Set.univ (Pipeline.sub_ucRefs _ (StableHlo.unary_bufs_sub ..))) $$ [Hbd Hh]
    · isplitl [Hbd]; · iexact Hbd
      iexact Hh
    iintro ⟨Hbd, Hh⟩
    rw [HostLoop.elt_apply, wp_ret]; imodintro
    rw [HostLoop.case_succ, wp_bind]
    iapply (arm_wp m c k K _ (by unfold word V6; rw [StableHlo.after_cons, StableHlo.after_nil]; generalize V5 m c = V; rfl))
    isplitl [Hk]; · iexact Hk
    isplitl [Hbd]; · iexact Hbd
    isplitl [Hh]; · unfold V6; rw [StableHlo.after_cons, StableHlo.after_nil]; iexact Hh
    isplitl [HS]; · iexact HS
    isplitl [HG]; · iexact HG
    iexact Hla

end Cert.KernelIdeal.Run

end
-- ==== Proof.KernelIdeal.Run.lean ====
module

public import proofs.«01_k».proof.Proof.KernelIdeal.Program

@[expose] public section

noncomputable section

/-! The whole program run: it ends with every buffer as the last valuation says, the arguments unchanged and every
    semaphore counter at zero. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation afterRegion)

variable {F : FTy → Type} [FloatOps F]

local notation "UU" => UR sig nD τ × UR sig nD τ
local notation "𝕄" => MT nD τ sig Unit (Elt F) ℕ UU ℕ

variable (m : (ℓ : Loc nD τ sig) → Buf (Elt F) ℓ) (ρ : Dev nD → PrngReg)

/-! ## No step writes an argument -/

section Keep
variable (c : Dev nD) (r : Ref sig .tc)

theorem V1_of (h : r ∉ ([main_v0] : List (Ref sig .tc))) : V1 m c r = V0 m c r :=
  StableHlo.after_of_writes_sub hostOps0 _ (StableHlo.forall_writes_sub_of_map rfl) h
theorem V2_of (h : ∀ w, Pipeline.arrRef spec0 w = r → (cfg0.win w).isOut = false) : V2 m c r = V1 m c r :=
  Pipeline.afterRegion_keeps (d0 m c) (V1 m c) launch0.win.arr_inj (Quantize.A_eq (fun c b => V1 m c b) c) r h
theorem V3_of (h : r ∉ ([main_v2] : List (Ref sig .tc))) : V3 m c r = V2 m c r :=
  StableHlo.after_of_writes_sub hostOps1 _ (StableHlo.forall_writes_sub_of_map rfl) h
theorem V4_of (h : ∀ w, Pipeline.arrRef spec1 w = r → (cfg1.win w).isOut = false) : V4 m c r = V3 m c r :=
  Pipeline.afterRegion_keeps (d1 m c) (V3 m c) launch1.win.arr_inj (Fold.A_eq (fun c b => V3 m c b) c) r h
theorem V5_of (h : r ∉ ([main_c, main_v4, main_v5, main_c_0, main_v6] : List (Ref sig .tc))) : V5 m c r = V4 m c r :=
  StableHlo.after_of_writes_sub hostOps2 _ (StableHlo.forall_writes_sub_of_map rfl) h
theorem V6_of (h : r ∉ ([main_v7] : List (Ref sig .tc))) : V6 m c r = V5 m c r :=
  StableHlo.after_of_writes_sub [rdOp] _ (StableHlo.forall_writes_sub_of_map rfl) h
theorem V7_of (h : r ∉ ([main_case0b0_v9] : List (Ref sig .tc))) : V7 m c r = V6 m c r :=
  StableHlo.after_of_writes_sub [wideOp] _ (StableHlo.forall_writes_sub_of_map rfl) h
theorem V8_of (h : r ∉ ([main_v8] : List (Ref sig .tc))) (h' : ∀ w, Pipeline.arrRef spec2 w = r → (cfg2.win w).isOut = false) :
    V8 m c r = V7 m c r :=
  (StableHlo.after_of_writes_sub [copyWide] _ (StableHlo.forall_writes_sub_of_map rfl) h).trans
    (Pipeline.afterRegion_keeps (d2 m c) (V7 m c) launch2.win.arr_inj (Wide.A_eq (fun c b => V7 m c b) c) r h')
theorem V9_of (h : r ∉ ([main_v8] : List (Ref sig .tc))) (h' : ∀ w, Pipeline.arrRef spec3 w = r → (cfg3.win w).isOut = false) :
    V9 m c r = V6 m c r :=
  (StableHlo.after_of_writes_sub [copyNarrow] _ (StableHlo.forall_writes_sub_of_map rfl) h).trans
    (Pipeline.afterRegion_keeps (d3 m c) (V6 m c) launch3.win.arr_inj (Narrow.A_eq (fun c b => V6 m c b) c) r h')

/-- Whatever the branch, a buffer that neither arm writes ends as it was after the read of the word. -/
theorem VZ_of (h : r ∉ ([main_v8, main_case0b0_v9] : List (Ref sig .tc)))
    (h2 : ∀ w, Pipeline.arrRef spec2 w = r → (cfg2.win w).isOut = false)
    (h3 : ∀ w, Pipeline.arrRef spec3 w = r → (cfg3.win w).isOut = false) : VZ m c r = V6 m c r := by
  have hv : r ∉ ([main_v8] : List (Ref sig .tc)) := fun e => h (by rw [List.mem_singleton.mp e]; exact List.mem_cons_self ..)
  have hb : r ∉ ([main_case0b0_v9] : List (Ref sig .tc)) := fun e => h (List.mem_cons_of_mem _ e)
  unfold VZ VA
  split
  · exact (V8_of m c r hv h2).trans (V7_of m c r hb)
  · exact V9_of m c r hv h3

end Keep

theorem VZ_arg0 (c : Dev nD) : VZ m c main_arg0 = m ((c : Thread nD τ).loc main_arg0) :=
  (VZ_of m c main_arg0 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))
theorem VZ_arg1 (c : Dev nD) : VZ m c main_arg1 = m ((c : Thread nD τ).loc main_arg1) :=
  (VZ_of m c main_arg1 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))
theorem VZ_arg2 (c : Dev nD) : VZ m c main_arg2 = m ((c : Thread nD τ).loc main_arg2) :=
  (VZ_of m c main_arg2 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))
theorem VZ_arg3 (c : Dev nD) : VZ m c main_arg3 = m ((c : Thread nD τ).loc main_arg3) :=
  (VZ_of m c main_arg3 (by decide) (by decide) (by decide)).trans <| (V6_of m c _ (by decide)).trans <| (V5_of m c _ (by decide)).trans <|
    (V4_of m c _ (by decide)).trans <| (V3_of m c _ (by decide)).trans <| (V2_of m c _ (by decide)).trans (V1_of m c _ (by decide))

/-! ## The run -/

/-- The program's steps. -/
def segs : List (Seg (pcfgs (F := F)) adm (pdats m) () defs₀ 𝒱₀ L lv) :=
  [.host (ops G hostOps0 hostOps0_sub fresh0 (V0 m)), .region (reg0 m G), .host (ops G hostOps1 hostOps1_sub fresh1 (V2 m)),
   .region (reg1 m G), .host (ops G hostOps2 hostOps2_sub fresh2 (V4 m)), .host (caseSeg m)]

set_option backward.isDefEq.respectTransparency.types false in
theorem segs_chains (c : Dev nD) : Seg.ChainsAt c (fun c => iprop(St (V0 m c) c ∗ Side c ∗ G c)) (segs m)
    (fun c => iprop(St (VZ m c) c ∗ ∃ W, owes (c.tc : Thread nD τ) (0 : CellTallies nD τ sig Unit) W)) :=
  ⟨.rfl, .rfl, .rfl, .rfl, .rfl, .rfl, sep_mono .rfl (by unfold Side; iintro ⟨-, H⟩; iexact H)⟩

set_option backward.isDefEq.respectTransparency.types false in
/-- The launch's ghost state: one copy for the calls before the branch, one for those in it. -/
theorem launch_ghost : (ownU ((initOf (Pipeline.cells cfgs cellOf_inj) (Pipeline.launchToks cfgs cellOf_inj),
      initOf (Pipeline.cells cfgs cellOf_inj) (Pipeline.launchToks cfgs cellOf_inj)) : UU) : sProp 𝕄)
    ⊢ |={Set.univ}=> iprop(BI.own (embL (initOf (Pipeline.cells cfgs cellOf_inj) (Pipeline.launchToks cfgs cellOf_inj))) ∗ bigSep Finset.univ (G (F := F))) := by
  iintro H
  ihave H' := (ownU_pair (nD := nD) (sig := sig) (Ix := Unit) (Val := Elt F) (Name := ℕ) (Lvl := ℕ)
    (initOf (Pipeline.cells cfgs cellOf_inj) (Pipeline.launchToks cfgs cellOf_inj)) (initOf (Pipeline.cells cfgs cellOf_inj) (Pipeline.launchToks cfgs cellOf_inj))) $$ H
  icases H' with ⟨H1, H2⟩
  imod (Pipeline.fund_ghost (Ix := Unit) (Val := Elt F) (Name := ℕ) (U := UU) (Lvl := ℕ) cfgs embR cellOf_inj) $$ H2 with ⟨Hc, Ht⟩
  imodintro
  isplitl [H1]; · iexact H1
  have hj : iprop((bigSep Finset.univ fun c : Dev nD => bigSep Finset.univ fun p => Pipeline.cellsGhost cfgs embR p c)
      ∗ (bigSep Finset.univ fun c : Dev nD => bigSep Finset.univ fun p => (Pipeline.toksInit cfgs embR p c : sProp 𝕄))) ⊢ bigSep Finset.univ (G (F := F)) := by
    rw [← bigSep_sep']
    exact bigSep_mono fun c _ => by
      rw [← bigSep_sep']; exact BI.Entails.refl _
  iapply hj
  isplitl [Hc] <;> iassumption

set_option backward.isDefEq.respectTransparency.types false in
set_option maxHeartbeats 1000000 in
/-- The run: every buffer outside the calls' own memory ends at the last valuation, and every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = VZ m c b) ∧ r.2.sem = fun _ => 0) := by
  refine Pipeline.θ_run_regions_kit_dev_sems (pcfgs (F := F)) adm (pdats m) () cellOf_inj embL defs₀ 𝒱₀ L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          caseProg] from rfl]
      exact .rfl)
    (fun c => by unfold segs; simp only [Seg.pipes_host, Seg.pipes_region, Seg.pipes_nil]; decide) 0 (fun _ _ => rfl) G _ launch_ghost
    (T₀ := fun c => iprop(St (V0 m c) c ∗ Side c ∗ G c))
    (Tₙ := fun c => St (VZ m c) c)
    (hch := segs_chains m)
    (hinit := ?_) (QY := fun c s => ∀ b ∈ Pipeline.ucRefs τ sig, s.mem ((c : Thread nD τ).1, b) = VZ m c b)
    (hfin := fun c s' => ?_) (hQ := fun _ h hz => ⟨h, funext fun g => hz g (.inr (no_unscoped g.2))⟩)
  · refine Pipeline.initEach L lv fun c => ?_
    have hh := Pipeline.unscopedBufs_held (Ix := Unit) (Name := ℕ) (U := UU) (Lvl := ℕ) c (V0 m c)
    unfold Side
    iintro ⟨⟨Hb, -, HO, -, HP, HG⟩, -⟩
    imodintro
    isplitl [Hb]
    · iapply (show (unscopedBufs c fun b => m (c.tc.loc b)) ⊢ (St (V0 m c) c : sProp 𝕄) from hh ▸ BI.Entails.refl _); iexact Hb
    isplitl [HO HP]
    · isplitl [HP]
      · iexists _; iexact HP
      · iexists _; iexact HO
    iexact HG
  · unfold St StableHlo.held
    iintro ⟨Hh, HSI⟩
    ihave Hr := (pointsTo_read_all (Pipeline.ucRefs τ sig) (fun b => ((c : Thread nD τ).1, b)) (VZ m c) s') $$ [Hh HSI]
    · isplitl [Hh] <;> iassumption
    icases Hr with ⟨%h, HSI⟩
    imodintro
    isplitr
    · ipureintro; exact h
    · iexact HSI
where
  /-- The TensorCore has no semaphore outside the calls' own memory. -/
  no_unscoped : ∀ sm : SemLoc sig, sm.isScoped .tc = true := by decide

/-- The run at the program's results and arguments. -/
theorem run : θ_run defs (onTc (τ := τ) (main (F := F))) ⟨m, fun _ => 0, ρ⟩ (fun r => (∀ c : Dev nD,
      r.2.mem ((c.tc : Thread nD τ).loc main_v8) = VZ m c main_v8
      ∧ r.2.mem ((c.tc : Thread nD τ).loc main_v1_0) = VZ m c main_v1_0
      ∧ r.2.mem ((c.tc : Thread nD τ).loc main_v1_1) = VZ m c main_v1_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨h.1 c (Proc.devRef .tc main_v8) (Finset.mem_filter.mpr ⟨StableHlo.devRef_mem_tcRefs main_v8, by decide⟩),
       h.1 c (Proc.devRef .tc main_v1_0) (Finset.mem_filter.mpr ⟨StableHlo.devRef_mem_tcRefs main_v1_0, by decide⟩),
       h.1 c (Proc.devRef .tc main_v1_1) (Finset.mem_filter.mpr ⟨StableHlo.devRef_mem_tcRefs main_v1_1, by decide⟩),
       (h.1 c (Proc.devRef .tc main_arg0) (Finset.mem_filter.mpr ⟨StableHlo.devRef_mem_tcRefs main_arg0, by decide⟩)).trans (VZ_arg0 m c),
       (h.1 c (Proc.devRef .tc main_arg1) (Finset.mem_filter.mpr ⟨StableHlo.devRef_mem_tcRefs main_arg1, by decide⟩)).trans (VZ_arg1 m c),
       (h.1 c (Proc.devRef .tc main_arg2) (Finset.mem_filter.mpr ⟨StableHlo.devRef_mem_tcRefs main_arg2, by decide⟩)).trans (VZ_arg2 m c),
       (h.1 c (Proc.devRef .tc main_arg3) (Finset.mem_filter.mpr ⟨StableHlo.devRef_mem_tcRefs main_arg3, by decide⟩)).trans (VZ_arg3 m c)⟩, h.2⟩)
    (run_all m ρ)

end Cert.KernelIdeal.Run

end
-- ==== Proof.Value.Power.lean ====
module

public import Idealize.ShloMosaic.PureOps.Ideal.Laws
public import Idealize.ShloMosaic.Lib.IndicatorCount

@[expose] public section

noncomputable section

/-! Powers of two written as the bits of a float, and the search for the exponent of a value. -/

namespace Cert.Scale

open Idealize.ShloMosaic

/-- The value whose bits are the exponent field `e` alone. -/
def pow (e : BitVec 32) : EReal := Ideal.ofBits .f32 (IntOp.shli .vector e 23#32)

/-- The fields of the bits of `pow n`. -/
theorem pow_fields : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- An exponent field between 1 and 254 is a power of two. -/
theorem pow_eq (n : ℕ) (h1 : 1 ≤ n) (h2 : n ≤ 254) : pow (BitVec.ofNat 32 n) = (((2 : ℝ) ^ ((n : ℤ) - 127) : ℝ) : EReal) := by
  obtain ⟨a, b, c⟩ := pow_fields ⟨n, by omega⟩
  dsimp only at a b c
  unfold pow
  show Ideal.ieee 8 23 _ = _
  unfold Ideal.ieee
  simp only [a, b, c]
  rw [if_neg (by norm_num; omega), if_neg (by omega)]
  norm_num
  rw [← EReal.coe_mul, show (8388608 : ℝ) = (2 : ℝ) ^ (23 : ℤ) by norm_num, ← zpow_add₀ (by norm_num),
    show (23 : ℤ) + ((n : ℤ) - 127 - 23) = (n : ℤ) - 127 by ring]

/-- The exponent field 255 is infinity. -/
theorem pow_top : pow (BitVec.ofNat 32 255) = ⊤ := by
  obtain ⟨a, b, c⟩ := pow_fields ⟨255, by omega⟩
  dsimp only at a b c
  unfold pow
  generalize IntOp.shli .vector (BitVec.ofNat 32 255) 23#32 = w at a b c ⊢
  show Ideal.ieee 8 23 w = _
  unfold Ideal.ieee
  simp only [a, b, c]
  norm_num

/-- One step of the search: `s` is added to the exponent unless the power passes `v`. -/
def step (v : EReal) (s e : BitVec 32) : BitVec 32 :=
  Scalar.select (Ideal.cmp .olt v (pow (IntOp.addi e s))) e (IntOp.addi e s)

/-- The exponent field of `v`, bit by bit from the highest. -/
def search (v : EReal) : BitVec 32 :=
  step v 1#32 (step v 2#32 (step v 4#32 (step v 8#32 (step v 16#32 (step v 32#32 (step v 64#32 (step v 128#32 0#32)))))))

/-- What is known before a step of size `s`: the exponent `n` so far does not pass `v`, and `n + 2 s` does, if it exists. -/
def Between (v : EReal) (n k : ℕ) : Prop :=
  (n = 0 ∨ pow (BitVec.ofNat 32 n) ≤ v) ∧ (n + k = 256 ∨ v < pow (BitVec.ofNat 32 (n + k))) ∧ n + k ≤ 256

/-- A step halves the gap. -/
theorem step_between (v : EReal) (n s : ℕ) (h : Between v n (s + s)) :
    ∃ n', step v (BitVec.ofNat 32 s) (BitVec.ofNat 32 n) = BitVec.ofNat 32 n' ∧ Between v n' s := by
  obtain ⟨h1, h2, h3⟩ := h
  have e : IntOp.addi (BitVec.ofNat 32 n) (BitVec.ofNat 32 s) = BitVec.ofNat 32 (n + s) := by
    unfold IntOp.addi; rw [BitVec.ofNat_add]
  unfold step Scalar.select Ideal.cmp
  rw [e]
  by_cases hv : v < pow (BitVec.ofNat 32 (n + s))
  · exact ⟨n, by simp [hv], h1, .inr hv, by omega⟩
  · refine ⟨n + s, by simp [hv], .inr (not_lt.mp hv), ?_, by omega⟩
    rw [show n + s + s = n + (s + s) by omega]; exact h2

/-- The search finds the largest exponent whose power does not pass `v`. -/
theorem search_spec (v : EReal) : ∃ n, search v = BitVec.ofNat 32 n ∧ Between v n 1 := by
  obtain ⟨a, ea, ha⟩ := step_between v 0 128 ⟨.inl rfl, .inl rfl, by omega⟩
  obtain ⟨b, eb, hb⟩ := step_between v a 64 ha
  obtain ⟨c, ec, hc⟩ := step_between v b 32 hb
  obtain ⟨d, ed, hd⟩ := step_between v c 16 hc
  obtain ⟨f, ef, hf⟩ := step_between v d 8 hd
  obtain ⟨g, eg, hg⟩ := step_between v f 4 hf
  obtain ⟨i, ei, hi⟩ := step_between v g 2 hg
  obtain ⟨j, ej, hj⟩ := step_between v i 1 hi
  exact ⟨j, by unfold search; rw [ea, eb, ec, ed, ef, eg, ei, ej], hj⟩

/-- The exponent found for a value between two powers. -/
theorem search_eq (v : EReal) (n : ℕ) (h1 : 1 ≤ n) (h2 : n + 1 ≤ 254)
    (hl : (((2 : ℝ) ^ ((n : ℤ) - 127) : ℝ) : EReal) ≤ v) (hu : v < (((2 : ℝ) ^ ((n : ℤ) - 126) : ℝ) : EReal)) :
    search v = BitVec.ofNat 32 n := by
  obtain ⟨k, e, ha, hb, hc⟩ := search_spec v
  rw [e]
  congr 1
  have up : ∀ i j : ℤ, (((2 : ℝ) ^ i : ℝ) : EReal) < (((2 : ℝ) ^ j : ℝ) : EReal) → i < j := fun i j h =>
    (zpow_lt_zpow_iff_right₀ (by norm_num)).mp (EReal.coe_lt_coe_iff.mp h)
  have hkn : k ≤ n := by
    rcases ha with ha | ha
    · omega
    · by_contra hcon
      by_cases h255 : k = 255
      · rw [h255, pow_top] at ha
        exact absurd (lt_of_le_of_lt ha hu) (by simp)
      · rw [pow_eq k (by omega) (by omega)] at ha
        have := up _ _ (lt_of_le_of_lt ha hu); omega
  have hnk : n ≤ k := by
    rcases hb with hb | hb
    · omega
    · by_contra hcon
      rw [pow_eq (k + 1) (by omega) (by omega)] at hb
      have := up _ _ (lt_of_le_of_lt hl hb); push_cast at this; omega
  omega

end Cert.Scale

end
-- ==== Proof.Value.Layout.lean ====
module

public import Idealize.ShloMosaic.Lib.Pointwise
public import Idealize.ShloMosaic.Lib.ValueLayoutCasts
public import proofs.«01_k».proof.Proof.Value.Power

@[expose] public section

set_option maxRecDepth 16384

noncomputable section

/-! Reductions of a two-axis array at an index, and the search of an exponent element by element. -/

namespace Cert.Layout

open Idealize.ShloMosaic

/-- A row index with a column put back. -/
theorem lift_row {R C : ℕ} (h : Shape.Reduces ⟨2, ![R, C]⟩ [1] ⟨1, ![R]⟩) (r : Fin R) (k : Fin C) : h.lift (ix1 r) k = ix2 r k := by
  funext c
  apply Fin.ext
  show h.liftVal (ix1 r) k.val c = _
  fin_cases c <;> simp [Shape.Reduces.liftVal, ix1, ix2]

/-- A column index with a row put back. -/
theorem lift_col {R C : ℕ} (h : Shape.Reduces ⟨2, ![R, C]⟩ [0] ⟨1, ![C]⟩) (c : Fin C) (k : Fin R) : h.lift (ix1 c) k = ix2 k c := by
  funext d
  apply Fin.ext
  show h.liftVal (ix1 c) k.val d = _
  fin_cases d <;> simp [Shape.Reduces.liftVal, ix1, ix2]

/-- The largest element of a row. -/
theorem maxRow {φ : FTy} {R C : ℕ} (x : FVec Ideal ⟨2, ![R, C]⟩ φ) (acc : BitVec φ.bits)
    (h : Shape.Reduces ⟨2, ![R, C]⟩ [1] ⟨1, ![R]⟩) (hφ : FKind.Formats φ) (hacc : acc = FKind.maximumf.neutral φ hφ) (r : Fin R) :
    multiReduction .maximumf [1] ⟨1, ![R]⟩ x acc h hφ hacc (ix1 r)
      = Finset.univ.fold max (Ideal.ofBits φ acc) fun k : Fin C => x (ix2 r k) := by
  refine (Ideal.multiReduction_maximumf_single x acc h hφ hacc (ix1 r)).trans ?_
  exact Finset.fold_congr fun k _ => congrArg x (lift_row h r k)

/-- The sum of a row of words. -/
theorem addRow {R C : ℕ} (x : IVec ⟨2, ![R, C]⟩ 32) (acc : BitVec 32) (h : Shape.Reduces ⟨2, ![R, C]⟩ [1] ⟨1, ![R]⟩)
    (hacc : acc = IKind.add.neutral) (r : Fin R) :
    multiReductionI .add [1] ⟨1, ![R]⟩ x acc h hacc (ix1 r) = Finset.univ.fold IntOp.addi acc fun k : Fin C => x (ix2 r k) := by
  rw [multiReductionI_eq_fold]
  refine (h.fold_filter_drop_single IntOp.addi acc x (ix1 r)).trans ?_
  exact Finset.fold_congr fun k _ => congrArg x (lift_row h r k)

/-- The largest word of a column. -/
theorem maxCol {R C : ℕ} (x : IVec ⟨2, ![R, C]⟩ 32) (acc : BitVec 32) (h : Shape.Reduces ⟨2, ![R, C]⟩ [0] ⟨1, ![C]⟩)
    (hacc : acc = IKind.maxsi.neutral) (c : Fin C) :
    multiReductionI .maxsi [0] ⟨1, ![C]⟩ x acc h hacc (ix1 c) = Finset.univ.fold IntOp.maxsi acc fun k : Fin R => x (ix2 k c) := by
  rw [multiReductionI_eq_fold]
  refine (h.fold_filter_drop_single IntOp.maxsi acc x (ix1 c)).trans ?_
  exact Finset.fold_congr fun k _ => congrArg x (lift_col h c k)

/-- The smallest word of a column. -/
theorem minCol {R C : ℕ} (x : IVec ⟨2, ![R, C]⟩ 32) (acc : BitVec 32) (h : Shape.Reduces ⟨2, ![R, C]⟩ [0] ⟨1, ![C]⟩)
    (hacc : acc = IKind.minsi.neutral) (c : Fin C) :
    multiReductionI .minsi [0] ⟨1, ![C]⟩ x acc h hacc (ix1 c) = Finset.univ.fold IntOp.minsi acc fun k : Fin R => x (ix2 k c) := by
  rw [multiReductionI_eq_fold]
  refine (h.fold_filter_drop_single IntOp.minsi acc x (ix1 c)).trans ?_
  exact Finset.fold_congr fun k _ => congrArg x (lift_col h c k)

/-- A column of results set up as a one-column array. -/
theorem castCol {α : Type} {R : ℕ} (x : (⟨1, ![R]⟩ : Shape).Idx → α) (h : Shape.ShapeCasts ⟨1, ![R]⟩ ⟨2, ![R, 1]⟩) (r : Fin R) (u : Fin 1) :
    shapeCast ⟨2, ![R, 1]⟩ x h (ix2 r u) = x (ix1 r) :=
  ValueIdx.shapeCast_a_a1_apply x h r u

/-- A row of results set up as a one-row array. -/
theorem castRow {α : Type} {C : ℕ} (x : (⟨1, ![C]⟩ : Shape).Idx → α) (h : Shape.ShapeCasts ⟨1, ![C]⟩ ⟨2, ![1, C]⟩) (c : Fin C) (u : Fin 1) :
    shapeCast ⟨2, ![1, C]⟩ x h (ix2 u c) = x (ix1 c) :=
  shapeCast_apply x h _ _ (by
    have hu : u.val = 0 := by omega
    rw [Shape.rowMajor_val_two, Shape.rowMajor_val_one]
    show c.val = u.val * C + c.val
    rw [hu, Nat.zero_mul, Nat.zero_add])

/-- One step of the search on a whole array. -/
def vstep {s : Shape} (v : FVec Ideal s .f32) (k : BitVec 32) (e : IVec s 32) : IVec s 32 :=
  select (cmpf .olt v (bitcastToFloat .f32 (shli (addi e (broadcast s k)) (broadcast s 23#32)))) e (addi e (broadcast s k))

/-- The step acts element by element. -/
theorem vstep_apply {s : Shape} (v : FVec Ideal s .f32) (k : BitVec 32) (e : IVec s 32) (j : s.Idx) :
    vstep v k e j = Scale.step (v j) k (e j) := rfl

/-- The whole search on an array acts element by element. -/
theorem vsearch_apply {s : Shape} (v : FVec Ideal s .f32) (j : s.Idx) :
    vstep v 1#32 (vstep v 2#32 (vstep v 4#32 (vstep v 8#32 (vstep v 16#32 (vstep v 32#32 (vstep v 64#32 (vstep v 128#32 (broadcast s 0#32)))))))) j
      = Scale.search (v j) := by
  simp only [vstep_apply]
  rfl

end Cert.Layout

end
-- ==== Proof.Value.Exponent.lean ====
module

public import proofs.«01_k».proof.Proof.Value.Power

@[expose] public section

noncomputable section

/-! The exponent of a row's scale: found by search on one side and by counting the powers of two on the other. -/

namespace Cert.Scale

open Idealize.ShloMosaic

/-- The largest magnitude of a row. -/
def rowMax {C : ℕ} (f : Fin C → EReal) : EReal := Finset.univ.fold max ⊥ fun k => max (f k) (-(f k))

/-- The reciprocal of the largest code, as written in the program. -/
def third : EReal := Ideal.ofBits .f32 0x3B124925#32

/-- The scale's exponent by search. -/
def kexp (v : EReal) : BitVec 32 :=
  Scalar.select (IntOp.ori (IntOp.cmpi .eq (search v) 0#32) (IntOp.cmpi .eq (search v) 255#32)) 0#32 (IntOp.subi (search v) 126#32)

/-- The number of the powers of two from `2^-149` to `2^127` that do not pass `v`. -/
def count (v : EReal) : BitVec 32 :=
  Finset.univ.fold IntOp.addi 0#32 fun k : Fin 277 =>
    (Ideal.cmp .oge v (Ideal.exp2 (((IntOp.subi (BitVec.ofNat 32 k.val) 149#32).toInt : ℝ) : EReal))).setWidth 32

/-- The scale's exponent by counting. -/
def rexp (a : EReal) : BitVec 32 :=
  Scalar.select (Ideal.cmp .oeq a (Ideal.ofBits .f32 0#32)) 0#32 (IntOp.subi (count (a * third)) 149#32)

/-- A power of two by its exponent. -/
def two (e : BitVec 32) : EReal := Ideal.exp2 ((e.toInt : ℝ) : EReal)

/-- The rows the claim is about: all zero, or with a scale that is a normal power of two. -/
def Good (a : EReal) : Prop :=
  a = 0 ∨ (Ideal.ofBits .f32 0x00800000#32 ≤ a * third ∧ a ≤ Ideal.ofBits .f32 0x7F7F0000#32)

/-- A power of two by its exponent, as a real number. -/
theorem two_eq (e : BitVec 32) : two e = (((2 : ℝ) ^ e.toInt : ℝ) : EReal) := by
  unfold two
  rw [Ideal.exp2_coe]
  show ((Real.rpow 2 ((e.toInt : ℤ) : ℝ) : ℝ) : EReal) = _
  rw [Real.rpow_eq_pow, Real.rpow_intCast]

/-- The word of the power counted at position `k`. -/
theorem word_count : ∀ k : Fin 277, (IntOp.subi (BitVec.ofNat 32 k.val) 149#32).toInt = (k.val : ℤ) - 149 := by
  decide +kernel

/-- The words met on the way from an exponent field to the scale and its reciprocal. -/
theorem word_exp : ∀ n : Fin 253,
    (IntOp.subi (BitVec.ofNat 32 n.val) 126#32).toInt = (n.val : ℤ) - 126
      ∧ (IntOp.subi 0#32 (IntOp.subi (BitVec.ofNat 32 n.val) 126#32)).toInt = 126 - (n.val : ℤ)
      ∧ IntOp.subi (BitVec.ofNat 32 (n.val + 23)) 149#32 = IntOp.subi (BitVec.ofNat 32 n.val) 126#32
      ∧ IntOp.addi (IntOp.subi (BitVec.ofNat 32 n.val) 126#32) 127#32 = BitVec.ofNat 32 (n.val + 1)
      ∧ IntOp.addi (IntOp.subi 0#32 (IntOp.subi (BitVec.ofNat 32 n.val) 126#32)) 127#32 = BitVec.ofNat 32 (253 - n.val)
      ∧ (n.val ≠ 0 → IntOp.ori (IntOp.cmpi .eq (BitVec.ofNat 32 n.val) 0#32) (IntOp.cmpi .eq (BitVec.ofNat 32 n.val) 255#32) = 0#1) := by
  decide +kernel

/-- A float with its sign bit clear and a normal exponent field. -/
theorem normal_eq (w : BitVec 32) (e f : ℕ) (hs : (w.extractLsb' 31 1 == 1#1) = false) (he : (w.extractLsb' 23 8).toNat = e)
    (hf : (w.extractLsb' 0 23).toNat = f) (h1 : 1 ≤ e) (h2 : e ≤ 254) :
    Ideal.ofBits .f32 w = ((((8388608 + f : ℕ) : ℝ) * (2 : ℝ) ^ ((e : ℤ) - 150) : ℝ) : EReal) := by
  show Ideal.ieee 8 23 w = _
  unfold Ideal.ieee
  simp only [hs, he, hf]
  rw [if_neg (by norm_num; omega), if_neg (by omega)]
  norm_num
  rw [show ((e : ℤ) - 127 - 23) = (e : ℤ) - 150 by ring]

/-- The reciprocal of the largest code is a positive real number below `2^-8`. -/
theorem third_eq : ∃ t : ℝ, third = (t : EReal) ∧ 0 < t ∧ t < (2 : ℝ) ^ (-8 : ℤ) :=
  ⟨_, normal_eq 0x3B124925#32 118 1198373 (by decide) (by decide) (by decide) (by omega) (by omega), by positivity, by norm_num⟩

/-- The largest magnitude admitted is a real number below `2^128`. -/
theorem big_lt : Ideal.ofBits .f32 0x7F7F0000#32 < (((2 : ℝ) ^ (128 : ℤ) : ℝ) : EReal) := by
  rw [normal_eq 0x7F7F0000#32 254 8323072 (by decide) (by decide) (by decide) (by omega) (by omega), EReal.coe_lt_coe_iff]
  norm_num

/-- The smallest normal number. -/
theorem small_eq : Ideal.ofBits .f32 0x00800000#32 = (((2 : ℝ) ^ (-126 : ℤ) : ℝ) : EReal) := by
  have := pow_eq 1 (by omega) (by omega)
  unfold pow at this
  rw [show IntOp.shli .vector (BitVec.ofNat 32 1) 23#32 = 0x00800000#32 from by decide] at this
  rw [this]
  norm_num

/-- The search finds nothing below zero. -/
theorem search_zero : search 0 = 0#32 := by
  obtain ⟨n, e, h, -, hn⟩ := search_spec 0
  by_cases h0 : n = 0
  · rw [e, h0]
  · exfalso
    rcases h with h | h
    · exact h0 h
    by_cases h1 : n = 255
    · rw [h1, pow_top] at h; simp at h
    · rw [pow_eq n (by omega) (by omega)] at h
      have : (0 : ℝ) < (2 : ℝ) ^ ((n : ℤ) - 127) := by positivity
      exact absurd h (not_le.mpr (by exact_mod_cast this))

/-- How many of the powers do not pass a value between `2^(n-127)` and `2^(n-126)`. -/
theorem count_eq (r : ℝ) (n : ℕ) (h2 : n ≤ 252) (hl : (2 : ℝ) ^ ((n : ℤ) - 127) ≤ r) (hu : r < (2 : ℝ) ^ ((n : ℤ) - 126)) :
    count (r : EReal) = BitVec.ofNat 32 (n + 23) := by
  unfold count
  rw [IndicatorCount.fold_addi_setWidth_eq_card]
  congr 1
  have hS : (Finset.univ.filter fun k : Fin 277 =>
      Ideal.cmp .oge (r : EReal) (Ideal.exp2 (((IntOp.subi (BitVec.ofNat 32 k.val) 149#32).toInt : ℝ) : EReal)) = 1#1)
      = Finset.univ.filter fun k : Fin 277 => k.val < n + 23 := by
    refine Finset.filter_congr fun k _ => ?_
    have hk := two_eq (IntOp.subi (BitVec.ofNat 32 k.val) 149#32)
    unfold two at hk
    rw [hk, word_count k]
    have : Ideal.cmp .oge (r : EReal) (((2 : ℝ) ^ ((k.val : ℤ) - 149) : ℝ) : EReal)
        = BitVec.ofBool (decide ((((2 : ℝ) ^ ((k.val : ℤ) - 149) : ℝ) : EReal) ≤ (r : EReal))) := rfl
    rw [this]
    have e1 : (BitVec.ofBool (decide ((((2 : ℝ) ^ ((k.val : ℤ) - 149) : ℝ) : EReal) ≤ (r : EReal))) = 1#1)
        ↔ (2 : ℝ) ^ ((k.val : ℤ) - 149) ≤ r := by
      simp only [EReal.coe_le_coe_iff]
      by_cases h : (2 : ℝ) ^ ((k.val : ℤ) - 149) ≤ r <;> simp [h]
    rw [e1]
    constructor
    · intro h
      have := (zpow_lt_zpow_iff_right₀ (by norm_num : (1 : ℝ) < 2)).mp (lt_of_le_of_lt h hu)
      omega
    · intro h
      exact le_trans (zpow_le_zpow_right₀ (by norm_num) (by omega)) hl
  rw [hS]
  rw [show (Finset.univ.filter fun k : Fin 277 => k.val < n + 23) = Finset.Iio (⟨n + 23, by omega⟩ : Fin 277) from by
    ext k; simp [Fin.lt_def]]
  rw [Fin.card_Iio]

/-- A row that is not all zero has an exponent field between 1 and 252, and both sides find it. -/
theorem exps (a : EReal) (h0 : a ≠ 0) (h : Good a) :
    ∃ n : ℕ, 1 ≤ n ∧ n ≤ 252 ∧ kexp (a * third) = IntOp.subi (BitVec.ofNat 32 n) 126#32
      ∧ rexp a = IntOp.subi (BitVec.ofNat 32 n) 126#32 := by
  rcases h with h | ⟨hl, hu⟩
  · exact absurd h h0
  obtain ⟨t, et, ht, ht'⟩ := third_eq
  rw [small_eq, et] at hl
  have hlt := lt_of_le_of_lt hu big_lt
  induction a with
  | bot => rw [EReal.bot_mul_coe_of_pos ht] at hl; simp at hl
  | top => simp at hlt
  | coe a =>
  rw [← EReal.coe_mul, EReal.coe_le_coe_iff] at hl
  rw [EReal.coe_lt_coe_iff] at hlt
  have hv0 : 0 < a * t := lt_of_lt_of_le (by positivity) hl
  have ha0 : 0 < a := by
    by_contra hc
    exact absurd (mul_nonpos_of_nonpos_of_nonneg (not_lt.mp hc) ht.le) (not_le.mpr hv0)
  have hv : a * t < (2 : ℝ) ^ (120 : ℤ) := by
    calc a * t < (2 : ℝ) ^ (128 : ℤ) * (2 : ℝ) ^ (-8 : ℤ) := mul_lt_mul hlt ht'.le ht (by positivity)
      _ = (2 : ℝ) ^ (120 : ℤ) := by rw [← zpow_add₀ (by norm_num)]; norm_num
  obtain ⟨z, hz⟩ := exists_mem_Ico_zpow hv0 (by norm_num : (1 : ℝ) < 2)
  obtain ⟨hz1, hz2⟩ := hz
  have z1 : -126 < z + 1 := (zpow_lt_zpow_iff_right₀ (by norm_num : (1 : ℝ) < 2)).mp (lt_of_le_of_lt hl hz2)
  have z2 : z < 120 := (zpow_lt_zpow_iff_right₀ (by norm_num : (1 : ℝ) < 2)).mp (lt_of_le_of_lt hz1 hv)
  obtain ⟨n, hn⟩ : ∃ n : ℕ, (n : ℤ) = z + 127 := ⟨(z + 127).toNat, by omega⟩
  have e1 : (n : ℤ) - 127 = z := by omega
  have e2 : (n : ℤ) - 126 = z + 1 := by omega
  obtain ⟨-, -, w3, -, -, w6⟩ := word_exp ⟨n, by omega⟩
  dsimp only at w3 w6
  refine ⟨n, by omega, by omega, ?_, ?_⟩
  · rw [et, ← EReal.coe_mul]
    unfold kexp
    rw [search_eq _ n (by omega) (by omega) (by rw [e1]; exact_mod_cast hz1) (by rw [e2]; exact_mod_cast hz2), w6 (by omega)]
    rfl
  · unfold rexp
    rw [et, ← EReal.coe_mul, count_eq _ n (by omega) (by rw [e1]; exact hz1) (by rw [e2]; exact hz2), w3]
    have : Ideal.cmp .oeq (a : EReal) (Ideal.ofBits .f32 0#32) = 0#1 := by
      rw [Ideal.ofBits_zero_f32]
      show BitVec.ofBool (decide ((a : EReal) = 0)) = 0#1
      rw [decide_eq_false (by exact_mod_cast ha0.ne')]
      rfl
    rw [this]
    rfl

/-- A zero row has exponent zero on both sides. -/
theorem exps_zero : kexp (0 * third) = 0#32 ∧ rexp 0 = 0#32 := by
  constructor
  · rw [zero_mul]
    unfold kexp
    rw [search_zero]
    rfl
  · unfold rexp
    have : Ideal.cmp .oeq 0 (Ideal.ofBits .f32 0#32) = 1#1 := by
      rw [Ideal.ofBits_zero_f32]
      show BitVec.ofBool (decide ((0 : EReal) = 0)) = 1#1
      simp
    rw [this]
    rfl

/-- The scale by its bits is the power of two of the counted exponent. -/
theorem scale_eq (a : EReal) (h : Good a) : pow (IntOp.addi (kexp (a * third)) 127#32) = two (rexp a) := by
  by_cases h0 : a = 0
  · rw [h0, exps_zero.1, exps_zero.2, two_eq, show IntOp.addi 0#32 127#32 = BitVec.ofNat 32 127 from rfl,
      pow_eq 127 (by omega) (by omega)]
    rfl
  · obtain ⟨n, h1, h2, ek, er⟩ := exps a h0 h
    obtain ⟨w1, -, -, w4, -, -⟩ := word_exp ⟨n, by omega⟩
    dsimp only at w1 w4
    rw [ek, er, w4, two_eq, w1, pow_eq (n + 1) (by omega) (by omega)]
    congr 2
    push_cast
    ring

/-- The reciprocal of the scale by its bits is the power of two of the counted exponent's opposite. -/
theorem inv_eq (a : EReal) (h : Good a) :
    pow (IntOp.addi (IntOp.subi 0#32 (kexp (a * third))) 127#32) = two (IntOp.subi 0#32 (rexp a)) := by
  by_cases h0 : a = 0
  · rw [h0, exps_zero.1, exps_zero.2, two_eq, show IntOp.addi (IntOp.subi 0#32 0#32) 127#32 = BitVec.ofNat 32 127 from rfl,
      pow_eq 127 (by omega) (by omega)]
    rfl
  · obtain ⟨n, h1, h2, ek, er⟩ := exps a h0 h
    obtain ⟨-, w2, -, -, w5, -⟩ := word_exp ⟨n, by omega⟩
    dsimp only at w2 w5
    rw [ek, er, w5, two_eq, w2, pow_eq (253 - n) (by omega) (by omega)]
    congr 2
    push_cast [show n ≤ 253 by omega]
    ring

end Cert.Scale

end
-- ==== Proof.Value.QuantizePay.lean ====
module

public import proofs.«01_k».proof.Proof.Gen.KernelIdeal.Skeleton
public import proofs.«01_k».proof.Proof.Value.Layout
public import proofs.«01_k».proof.Proof.Value.Exponent

@[expose] public section

set_option maxRecDepth 65536

noncomputable section

/-! The quantising body's results at an index. -/

namespace Cert.KernelIdeal.QuantizeValue

open Cert.KernelIdeal Cert.KernelIdeal.Gen Idealize.ShloMosaic Cert.Scale Cert.Layout

variable [Cert.KernelIdeal.Facts] (x : Vec Ideal S256x7168 .bf16)

/-- The reading of the bits of a bf16. -/
theorem bits_bf16 (w : BitVec 16) : Ideal.ofBits .bf16 w = Ideal.ieee 8 7 w := rfl

/-- The reading of the bits of an f32. -/
theorem bits_f32 (w : BitVec 32) : Ideal.ofBits .f32 w = Ideal.ieee 8 23 w := rfl

/-- The lower end of the codes. -/
theorem lo_eq : Ideal.ofBits .bf16 0xC3E0#16 = Ideal.ofBits .f32 0xC3E00000#32 := by
  rw [bits_bf16, bits_f32]
  unfold Ideal.ieee
  simp only [show ((0xC3E0#16).extractLsb' (8 + 7) 1 == 1#1) = true from by decide,
    show ((0xC3E0#16).extractLsb' 7 8).toNat = 135 from by decide, show ((0xC3E0#16).extractLsb' 0 7).toNat = 96 from by decide,
    show ((0xC3E00000#32).extractLsb' (8 + 23) 1 == 1#1) = true from by decide,
    show ((0xC3E00000#32).extractLsb' 23 8).toNat = 135 from by decide,
    show ((0xC3E00000#32).extractLsb' 0 23).toNat = 6291456 from by decide]
  norm_num

/-- The upper end of the codes. -/
theorem hi_eq : Ideal.ofBits .bf16 0x43E0#16 = Ideal.ofBits .f32 0x43E00000#32 := by
  rw [bits_bf16, bits_f32]
  unfold Ideal.ieee
  simp only [show ((0x43E0#16).extractLsb' (8 + 7) 1 == 1#1) = false from by decide,
    show ((0x43E0#16).extractLsb' 7 8).toNat = 135 from by decide, show ((0x43E0#16).extractLsb' 0 7).toNat = 96 from by decide,
    show ((0x43E00000#32).extractLsb' (8 + 23) 1 == 1#1) = false from by decide,
    show ((0x43E00000#32).extractLsb' 23 8).toNat = 135 from by decide,
    show ((0x43E00000#32).extractLsb' 0 23).toNat = 6291456 from by decide]
  norm_num

/-- The accumulator of a largest element is the least value. -/
theorem bot_bf16 : Ideal.ofBits .bf16 0xFF80#16 = ⊥ := by
  rw [bits_bf16]
  unfold Ideal.ieee
  simp only [show ((0xFF80#16).extractLsb' (8 + 7) 1 == 1#1) = true from by decide,
    show ((0xFF80#16).extractLsb' 7 8).toNat = 255 from by decide, show ((0xFF80#16).extractLsb' 0 7).toNat = 0 from by decide]
  norm_num

/-- Three rounds of the search. -/
theorem pay6_eq : k0_pay6 (F := Ideal) x = vstep (k0_pay5 x) 32#32 (vstep (k0_pay5 x) 64#32 (vstep (k0_pay5 x) 128#32 (broadcast S256x1 0#32))) := rfl

/-- The last five rounds of the search, from any three first ones. -/
theorem last_eq (v : FVec Ideal S256x1 .f32) (e : IVec S256x1 32) :
    k0_pay8 (F := Ideal) v e (cmpf .olt v (bitcastToFloat .f32 (shli (addi e (broadcast S256x1 16#32)) (broadcast S256x1 23#32)))) 16#32
      = vstep v 1#32 (vstep v 2#32 (vstep v 4#32 (vstep v 8#32 (vstep v 16#32 e)))) := by
  unfold k0_pay8 vstep
  rfl

/-- All eight rounds of the search. -/
theorem pay8_eq : k0_pay8 (F := Ideal) (k0_pay5 x) (k0_pay6 x) (k0_pay7 x) 16#32
    = vstep (k0_pay5 x) 1#32 (vstep (k0_pay5 x) 2#32 (vstep (k0_pay5 x) 4#32 (vstep (k0_pay5 x) 8#32 (vstep (k0_pay5 x) 16#32 (k0_pay6 x))))) :=
  last_eq (k0_pay5 x) (k0_pay6 x)

/-- The exponent field of every row's bound. -/
theorem pay8_apply (j : S256x1.Idx) : k0_pay8 (F := Ideal) (k0_pay5 x) (k0_pay6 x) (k0_pay7 x) 16#32 j = search (k0_pay5 x j) := by
  rw [pay8_eq, pay6_eq]
  exact vsearch_apply (k0_pay5 x) j

/-- A product with a constant at an index. -/
theorem mul_const (y : FVec Ideal S256x1 .bf16) (w : BitVec 32) (h) (j : S256x1.Idx) :
    mulf (extf .f32 y h) (broadcast S256x1 (Scalar.ofBits .f32 w)) j = y j * Ideal.ofBits .f32 w := rfl

/-- The largest magnitude of a row. -/
theorem amax_apply (r : Fin 256) :
    multiReduction .maximumf [1] S256 (absf (k0_pay4 (F := Ideal) x)) 0xFF80#16 reduces_S256x7168_S256 (.inr rfl) rfl (ix1 r)
      = rowMax (fun k => x (ix2 r k)) := by
  refine (maxRow (absf (k0_pay4 (F := Ideal) x)) 0xFF80#16 reduces_S256x7168_S256 (.inr rfl) rfl r).trans ?_
  rw [bot_bf16, show k0_pay4 (F := Ideal) x = x from shapeCast_self x _]
  rfl

/-- A row's bound: its largest magnitude over the largest code. -/
theorem pay5_apply (r : Fin 256) (u : Fin 1) : k0_pay5 (F := Ideal) x (ix2 r u) = rowMax (fun k => x (ix2 r k)) * third := by
  unfold k0_pay5
  refine (mul_const _ _ _ _).trans ?_
  refine congrArg (· * third) ?_
  exact (castCol _ _ r u).trans (amax_apply x r)

/-- The exponent of a row's scale. -/
theorem pay1_apply (r : Fin 256) (u : Fin 1) :
    k0_pay1 (k0_pay8 (F := Ideal) (k0_pay5 x) (k0_pay6 x) (k0_pay7 x) 16#32) (k0_pay9 (F := Ideal) (k0_pay5 x) (k0_pay6 x) (k0_pay7 x) 16#32) k0_pay10 (ix2 r u)
      = kexp (rowMax (fun k => x (ix2 r k)) * third) := by
  rw [← pay5_apply x r u]
  unfold kexp
  rw [← pay8_apply]
  rfl

/-- A row's scale. -/
theorem scale_apply (r : Fin 256) (u : Fin 1) :
    k0_pay2 (F := Ideal) (k0_pay8 (F := Ideal) (k0_pay5 x) (k0_pay6 x) (k0_pay7 x) 16#32) (k0_pay9 (F := Ideal) (k0_pay5 x) (k0_pay6 x) (k0_pay7 x) 16#32) k0_pay10 (ix2 r u)
      = pow (IntOp.addi (kexp (rowMax (fun k => x (ix2 r k)) * third)) 127#32) := by
  rw [← pay1_apply x r u]
  rfl

/-- An element's code. -/
theorem code_apply (r : Fin 256) (k : Fin 7168) :
    k0_pay3 (F := Ideal) (k0_pay4 x) (k0_pay8 (F := Ideal) (k0_pay5 x) (k0_pay6 x) (k0_pay7 x) 16#32) (k0_pay9 (F := Ideal) (k0_pay5 x) (k0_pay6 x) (k0_pay7 x) 16#32) k0_pay10 (ix2 r k)
      = min (Ideal.ofBits .f32 0x43E00000#32) (max (Ideal.ofBits .f32 0xC3E00000#32)
          (x (ix2 r k) * pow (IntOp.addi (IntOp.subi 0#32 (kexp (rowMax (fun k => x (ix2 r k)) * third))) 127#32))) := by
  rw [← pay1_apply x r 0, ← lo_eq, ← hi_eq]
  generalize k0_pay8 (F := Ideal) (k0_pay5 x) (k0_pay6 x) (k0_pay7 x) 16#32 = a
  generalize k0_pay9 (F := Ideal) (k0_pay5 x) (k0_pay6 x) (k0_pay7 x) 16#32 = b
  rw [show k0_pay4 x = x from shapeCast_self x _]
  pointwise [k0_pay3, k0_pay1]
  rfl

end Cert.KernelIdeal.QuantizeValue

end
-- ==== Proof.Value.QuantizeValue.lean ====
module

public import proofs.«01_k».proof.Proof.KernelIdeal.Quantize
public import proofs.«01_k».proof.Proof.Value.QuantizePay
public import Idealize.ShloMosaic.Lib.Pipeline.ValueKit

@[expose] public section

set_option maxRecDepth 16384

noncomputable section

/-! What the arrays of codes and of scales hold after the quantising call, from the array of rows it is given. -/

namespace Cert.KernelIdeal.QuantizeValue

open Cert.KernelIdeal Cert.KernelIdeal.Gen Idealize.ShloMosaic Idealize.ShloMosaic.TcCoe Idealize.SL.Sem Cert.Scale
open Idealize.ShloMosaic.Pipeline (Dat)
open Cert.KernelIdeal.Quantize

/-- The codes of all rows. -/
def codesOf (X : FVec Ideal S32768x7168 .bf16) : FVec Ideal S32768x7168 .fp8e4m3 := fun j =>
  min (Ideal.ofBits .f32 0x43E00000#32) (max (Ideal.ofBits .f32 0xC3E00000#32)
    (X j * pow (IntOp.addi (IntOp.subi 0#32 (kexp (rowMax (fun k : Fin 7168 => X (ix2 (j 0) k)) * third))) 127#32)))

/-- The scales of all rows. -/
def scalesOf (X : FVec Ideal S32768x7168 .bf16) : FVec Ideal S32768x1 .f32 := fun j =>
  pow (IntOp.addi (kexp (rowMax (fun k : Fin 7168 => X (ix2 (j 0) k)) * third)) 127#32)

variable (V : (c : Dev nD) → (b : Ref sig .tc) → Buf (Elt Ideal) ((c : Thread nD τ).loc b))

/-- Where each window's block sits. -/
theorem idx : ∀ t : Fin cfg0.N, win0_0.index t = ![t.val, 0] ∧ win0_1.index t = ![t.val, 0] ∧ win0_2.index t = ![t.val, 0] :=
  (by decide +kernel : ∀ t : Fin grid0.N, _)

/-- The block of rows at a point. -/
theorem read0 (c : Dev nD) (t : Fin cfg0.N) (r : Fin 256) (k : Fin 7168) (i : S32768x7168.Idx)
    (h0 : (i 0).val = t.val * 256 + r.val) (h1 : (i 1).val = k.val) : iblk V c 0 t (ix2 r k) = V c main_v0 i := by
  blk_ext [iblk, idx t]

/-- The body's loads are whole blocks. -/
theorem ld_eq (x : Vec Ideal S256x7168 .bf16) : View.ld x r0_0 = x := View.ld_unit_zero (funext fun a => by fin_cases a <;> rfl) _ _

/-- A code at a point of the grid. -/
theorem code_point (c : Dev nD) (t : Fin cfg0.N) (r : Fin 256) (k : Fin 7168) (i : S32768x7168.Idx)
    (h0 : (i 0).val = t.val * 256 + r.val) (h1 : (i 1).val = k.val) :
    k0_pay3 (F := Ideal) (k0_pay4 (iblk V c 0 t)) (v80 (iblk V c 0 t)) (v85 (iblk V c 0 t)) k0_pay10 (ix2 r k) = codesOf (V c main_v0) i := by
  have e80 : v80 (F := Ideal) (iblk V c 0 t) = k0_pay8 (k0_pay5 (iblk V c 0 t)) (k0_pay6 (iblk V c 0 t)) (k0_pay7 (iblk V c 0 t)) 16#32 := by
    unfold v80; rw [ld_eq]
  have e85 : v85 (F := Ideal) (iblk V c 0 t) = k0_pay9 (k0_pay5 (iblk V c 0 t)) (k0_pay6 (iblk V c 0 t)) (k0_pay7 (iblk V c 0 t)) 16#32 := by
    unfold v85; rw [ld_eq]
  rw [e80, e85]
  refine (code_apply (iblk V c 0 t) r k).trans ?_
  unfold codesOf
  rw [read0 V c t r k i h0 h1, show (fun k => iblk V c 0 t (ix2 r k)) = fun k : Fin 7168 => V c main_v0 (ix2 (i 0) k) from
    funext fun k => read0 V c t r k (ix2 (i 0) k) h0 rfl]

/-- A scale at a point of the grid. -/
theorem scale_point (c : Dev nD) (t : Fin cfg0.N) (r : Fin 256) (u : Fin 1) (i : S32768x1.Idx)
    (h0 : (i 0).val = t.val * 256 + r.val) :
    k0_pay2 (F := Ideal) (v80 (iblk V c 0 t)) (v85 (iblk V c 0 t)) k0_pay10 (ix2 r u) = scalesOf (V c main_v0) i := by
  have e80 : v80 (F := Ideal) (iblk V c 0 t) = k0_pay8 (k0_pay5 (iblk V c 0 t)) (k0_pay6 (iblk V c 0 t)) (k0_pay7 (iblk V c 0 t)) 16#32 := by
    unfold v80; rw [ld_eq]
  have e85 : v85 (F := Ideal) (iblk V c 0 t) = k0_pay9 (k0_pay5 (iblk V c 0 t)) (k0_pay6 (iblk V c 0 t)) (k0_pay7 (iblk V c 0 t)) 16#32 := by
    unfold v85; rw [ld_eq]
  rw [e80, e85]
  refine (scale_apply (iblk V c 0 t) r u).trans ?_
  unfold scalesOf
  rw [show (fun k => iblk V c 0 t (ix2 r k)) = fun k : Fin 7168 => V c main_v0 (ix2 (i 0) k) from
    funext fun k => read0 V c t r k (ix2 (i 0) k) h0 rfl]

/-- The array of codes. -/
theorem codes (c : Dev nD) : (dat V c).arrAt 1 cfg0.N = codesOf (V c main_v0) := by
  refine (dat V c).arrAt_eq_of_covers 1 _ (by decide +kernel) fun t _ y => ?_
  blk_simp
  rw [after0_1]
  frame_out
  rw [show y = ix2 (y 0) (y 1) from eq_ix2 y]
  exact code_point V c t (y 0) (y 1) _ (by blk_simp [idx t]) (by blk_simp [idx t]; try rfl)

/-- The array of scales. -/
theorem scales (c : Dev nD) : (dat V c).arrAt 2 cfg0.N = scalesOf (V c main_v0) := by
  refine (dat V c).arrAt_eq_of_covers 2 _ (by decide +kernel) fun t _ y => ?_
  blk_simp
  rw [after0_2]
  frame_out
  rw [show y = ix2 (y 0) (y 1) from eq_ix2 y]
  exact scale_point V c t (y 0) (y 1) _ (by blk_simp [idx t])

end Cert.KernelIdeal.QuantizeValue

end
-- ==== Proof.Value.Column.lean ====
module

public import proofs.«01_k».proof.Proof.Value.Exponent

@[expose] public section

noncomputable section

/-! What the folding of the group scales computes for one column of scales. -/

namespace Cert.Column

open Idealize.ShloMosaic Cert.Scale

variable {n : ℕ} (g : Fin n → EReal)

/-- The exponent field of a scale's magnitude. -/
def exp (k : Fin n) : BitVec 32 := search (max (g k) (-(g k)))

/-- The largest exponent of the column. -/
def top : BitVec 32 := Finset.univ.fold IntOp.maxsi 2147483648#32 (exp g)

/-- A scale's exponent relative to the largest one. -/
def rel (k : Fin n) : BitVec 32 := IntOp.addi (IntOp.subi (exp g k) (top g)) 5#32

/-- A sign as a number. -/
def sgn (x : EReal) : EReal :=
  Scalar.select (Ideal.cmp .olt x (Ideal.ofBits .f32 0x00000000#32)) (Ideal.ofBits .f32 0xBF800000#32) (Ideal.ofBits .f32 0x3F800000#32)

/-- The part of a scale that goes into the weights. -/
def relScale (k : Fin n) : EReal := pow (IntOp.addi (rel g k) 127#32) * sgn (g k)

/-- The part of the scales that goes into the column. -/
def colScale : EReal := pow (IntOp.addi (IntOp.subi (IntOp.subi (top g) 127#32) 5#32) 127#32)

/-- Whether a scale is a power of two that the two parts hold exactly. -/
def okBit (k : Fin n) : BitVec 1 :=
  IntOp.andi (IntOp.andi (IntOp.andi (Ideal.cmp .oeq (max (g k) (-(g k))) (pow (exp g k))) (IntOp.cmpi .ne (exp g k) 0#32))
    (IntOp.cmpi .sge (rel g k) 4294967287#32)) (IntOp.cmpi .sle (IntOp.absi (IntOp.subi (top g) 127#32)) 60#32)

/-- Whether all scales of the column are. -/
def okWord : BitVec 32 := Finset.univ.fold IntOp.minsi 2147483647#32 fun k => (okBit g k).setWidth 32

end Cert.Column

end
-- ==== Proof.Value.Weight.lean ====
module

public import proofs.«01_k».proof.Proof.Gen.KernelIdeal.Skeleton
public import Idealize.ShloMosaic.Lib.Pointwise

@[expose] public section

set_option maxRecDepth 16384

noncomputable section

/-! The weights as the kernel unpacks them, and the scaled products, at an index. -/

namespace Cert.KernelIdeal.Weight

open Cert.KernelIdeal Cert.KernelIdeal.Gen Idealize.ShloMosaic

/-- The four-bit code in half `h` of a byte, as a number. -/
def nib (h : BitVec 32) (p : BitVec 8) : EReal :=
  FloatOps.sitofp (F := Ideal) .bf16 (IntOp.subi (IntOp.xori (IntOp.andi (IntOp.shrui .vector (BitVec.setWidth 32 p) (Scalar.muli 4#32 h)) 15#32) 8#32) 8#32)

/-- Which half of the byte a column is in. -/
def half (n : ℕ) : BitVec 32 := BitVec.ofNat 32 (n / 5120)

/-- The code of the weight at row `k` and column `n`. -/
def codeAt (P : Vec Ideal S7168x5120 .i8) (k : Fin 7168) (n : Fin 10240) : EReal :=
  nib (half n.val) (P (ix2 k ⟨n.val % 5120, Nat.mod_lt _ (by norm_num)⟩))

/-- The group of a row. -/
def group (k : Fin 7168) : Fin 56 := ⟨k.val / 128, by omega⟩

/-- A product of codes and weights, scaled by row and by column. -/
def prod (X : FVec Ideal S32768x7168 .fp8e4m3) (W : Fin 7168 → Fin 10240 → EReal) (xs : FVec Ideal S32768x1 .f32)
    (cs : FVec Ideal S1x10240 .f32) : FVec Ideal S32768x10240 .bf16 := fun i =>
  (∑ k : Fin 7168, X (ix2 (i 0) k) * W k (i 1)) * xs (ix2 (i 0) 0) * cs (ix2 0 (i 1))

/-- The product at an index. -/
theorem prod_apply (X : FVec Ideal S32768x7168 .fp8e4m3) (W : Fin 7168 → Fin 10240 → EReal) (xs : FVec Ideal S32768x1 .f32)
    (cs : FVec Ideal S1x10240 .f32) (a : Fin 32768) (b : Fin 10240) :
    prod X W xs cs (ix2 a b) = (∑ k : Fin 7168, X (ix2 a k) * W k b) * xs (ix2 a 0) * cs (ix2 0 b) := rfl

/-- The wide product: the weights are the codes times their groups' scales. -/
def wideOf (X : FVec Ideal S32768x7168 .fp8e4m3) (P : Vec Ideal S7168x5120 .i8) (G : Vec Ideal S56x10240 .f32)
    (xs : FVec Ideal S32768x1 .f32) (ws : FVec Ideal S1x10240 .f32) : FVec Ideal S32768x10240 .bf16 :=
  prod X (fun k n => codeAt P k n * G (ix2 (group k) n)) xs ws

end Cert.KernelIdeal.Weight

end
-- ==== Proof.Value.FoldPay.lean ====
module

public import proofs.«01_k».proof.Proof.Gen.KernelIdeal.Skeleton
public import proofs.«01_k».proof.Proof.Value.Layout
public import proofs.«01_k».proof.Proof.Value.Column
public import proofs.«01_k».proof.Proof.Value.Weight

@[expose] public section

set_option maxRecDepth 65536

noncomputable section

/-! The folding body's results at an index. -/

namespace Cert.KernelIdeal.FoldValue

open Cert.KernelIdeal Cert.KernelIdeal.Gen Idealize.ShloMosaic Cert.Scale Cert.Layout Cert.Column Cert.KernelIdeal.Weight

variable [Cert.KernelIdeal.Facts] (x : Vec Ideal S56x256 .f32)

/-- Four rounds of the search. -/
theorem pay4_eq : k1_pay4 (F := Ideal) x
    = vstep (k1_pay3 x) 16#32 (vstep (k1_pay3 x) 32#32 (vstep (k1_pay3 x) 64#32 (vstep (k1_pay3 x) 128#32 (broadcast S56x256 0#32)))) := rfl

/-- The last four rounds of the search, from any first ones. -/
theorem pay6_eq (v : FVec Ideal S56x256 .f32) (e : IVec S56x256 32) :
    k1_pay6 (F := Ideal) v e k1_pay5 = vstep v 1#32 (vstep v 2#32 (vstep v 4#32 (vstep v 8#32 e))) := rfl

/-- The exponent of every scale. -/
def E : IVec S56x256 32 := k1_pay6 (F := Ideal) (k1_pay3 x) (k1_pay4 x) k1_pay5

/-- A column of scales. -/
def col (q : Fin 256) : Fin 56 → EReal := fun k => x (ix2 k q)

/-- The exponent of a scale. -/
theorem E_apply (k : Fin 56) (q : Fin 256) : E x (ix2 k q) = exp (col x q) k := by
  unfold E
  rw [pay6_eq, pay4_eq]
  exact vsearch_apply (k1_pay3 x) (ix2 k q)

/-- The largest exponent of a column. -/
theorem top_apply (u : Fin 1) (q : Fin 256) : k1_pay7 (F := Ideal) (k1_pay3 x) (k1_pay4 x) k1_pay5 (ix2 u q) = top (col x q) := by
  unfold k1_pay7
  refine (castRow _ _ q u).trans ?_
  refine (maxCol _ _ _ _ q).trans ?_
  unfold top
  exact Finset.fold_congr fun k _ => E_apply x k q

/-- The relative exponent of a scale. -/
theorem rel_apply (k : Fin 56) (q : Fin 256) : k1_pay8 (F := Ideal) (k1_pay3 x) (k1_pay4 x) k1_pay5 (ix2 k q) = rel (col x q) k := by
  unfold rel
  rw [← E_apply, ← top_apply x 0 q]
  unfold E
  pointwise [k1_pay8]

/-- The part of a scale that goes into the weights. -/
theorem relScale_apply (k : Fin 56) (q : Fin 256) :
    k1_pay11 (F := Ideal) (k1_pay2 x) (k1_pay8 (F := Ideal) (k1_pay3 x) (k1_pay4 x) k1_pay5) (ix2 k q) = relScale (col x q) k := by
  unfold relScale
  rw [← rel_apply]
  rfl

/-- A weight. -/
theorem weight_apply (h : BitVec 32) (p : Vec Ideal S7168x256 .i8) (k : Fin 7168) (q : Fin 256) :
    k1_pay1 (F := Ideal) h (k1_pay11 (F := Ideal) (k1_pay2 x) (k1_pay8 (F := Ideal) (k1_pay3 x) (k1_pay4 x) k1_pay5)) p (ix2 k q)
      = nib h (p (ix2 k q)) * relScale (col x q) (group k) := by
  rw [← relScale_apply]
  generalize k1_pay11 (F := Ideal) (k1_pay2 x) (k1_pay8 (F := Ideal) (k1_pay3 x) (k1_pay4 x) k1_pay5) = s
  pointwise [k1_pay1]
  rfl

/-- A column's scale. -/
theorem colScale_apply (w : Vec Ideal S1x256 .f32) (u : Fin 1) (q : Fin 256) :
    k1_pay12 (F := Ideal) (k1_pay7 (F := Ideal) (k1_pay3 x) (k1_pay4 x) k1_pay5) w (ix2 u q) = colScale (col x q) * w (ix2 u q) := by
  unfold colScale
  rw [← top_apply x u q]
  generalize k1_pay7 (F := Ideal) (k1_pay3 x) (k1_pay4 x) k1_pay5 = s
  unfold k1_pay12
  rw [shapeCast_self]
  rfl

/-- Whether a scale is exact. -/
theorem okBit_apply (k : Fin 56) (q : Fin 256) :
    andi (andi (andi (k1_pay9 (F := Ideal) (k1_pay2 x) (k1_pay3 x) (k1_pay4 x) k1_pay5) (cmpi .ne (E x) (broadcast S56x256 0#32)))
      (cmpi .sge (k1_pay8 (F := Ideal) (k1_pay3 x) (k1_pay4 x) k1_pay5) (broadcast S56x256 4294967287#32)))
      (broadcastTo S56x256 (cmpi .sle (absi (subi (k1_pay7 (F := Ideal) (k1_pay3 x) (k1_pay4 x) k1_pay5) (broadcast S1x256 127#32))) (broadcast S1x256 60#32)) broadcasts_S1x256_S56x256) (ix2 k q)
      = okBit (col x q) k := by
  unfold okBit
  rw [← rel_apply, ← E_apply, ← top_apply x 0 q]
  pointwise [k1_pay9, k1_pay2]
  rfl

/-- Whether all scales of a column are exact. -/
theorem ok_apply (r : Fin 8) (q : Fin 256) :
    k1_pay10 (k1_pay6 (F := Ideal) (k1_pay3 x) (k1_pay4 x) k1_pay5) (k1_pay7 (F := Ideal) (k1_pay3 x) (k1_pay4 x) k1_pay5)
      (k1_pay8 (F := Ideal) (k1_pay3 x) (k1_pay4 x) k1_pay5) (k1_pay9 (F := Ideal) (k1_pay2 x) (k1_pay3 x) (k1_pay4 x) k1_pay5) (ix2 r q)
      = okWord (col x q) := by
  unfold k1_pay10
  rw [shapeCast_self]
  have hb : ∀ y : IVec S1x256 32, broadcastTo S8x256 y broadcasts_S1x256_S8x256 (ix2 r q) = y (ix2 0 q) := fun y => by pointwise
  refine (hb _).trans ?_
  refine (castRow _ _ q 0).trans ?_
  refine (minCol _ _ _ _ q).trans ?_
  unfold okWord
  exact Finset.fold_congr fun k _ => congrArg (BitVec.setWidth 32) (okBit_apply x k q)

end Cert.KernelIdeal.FoldValue

end
-- ==== Proof.Value.FoldValue.lean ====
module

public import proofs.«01_k».proof.Proof.KernelIdeal.Fold
public import proofs.«01_k».proof.Proof.Value.FoldPay
public import Idealize.ShloMosaic.Lib.Pipeline.ValueKit
public import Idealize.ShloMosaic.Lib.Pipeline.Covers

@[expose] public section

set_option maxRecDepth 16384

noncomputable section

/-! What the three arrays of the folding call hold after it, from the arrays it is given. -/

namespace Cert.KernelIdeal.FoldValue

open Cert.KernelIdeal Cert.KernelIdeal.Gen Idealize.ShloMosaic Idealize.ShloMosaic.TcCoe Idealize.SL.Sem
open Idealize.ShloMosaic.Pipeline (Dat)
open Cert.KernelIdeal.Fold Cert.KernelIdeal.Weight Cert.Column

/-- A column of the group scales. -/
def gcol (G : Vec Ideal S56x10240 .f32) (n : Fin 10240) : Fin 56 → EReal := fun k => G (ix2 k n)

/-- The folded weights. -/
def weightsOf (P : Vec Ideal S7168x5120 .i8) (G : Vec Ideal S56x10240 .f32) : FVec Ideal S7168x10240 .fp8e4m3 := fun i =>
  codeAt P (i 0) (i 1) * relScale (gcol G (i 1)) (group (i 0))

/-- The folded column scales. -/
def colsOf (G : Vec Ideal S56x10240 .f32) (ws : FVec Ideal S1x10240 .f32) : FVec Ideal S1x10240 .f32 := fun i =>
  colScale (gcol G (i 1)) * ws (ix2 0 (i 1))

/-- The words saying which columns fold exactly. -/
def oksOf (G : Vec Ideal S56x10240 .f32) : IVec S8x10240 32 := fun i => okWord (gcol G (i 1))

variable (V : (c : Dev nD) → (b : Ref sig .tc) → Buf (Elt Ideal) ((c : Thread nD τ).loc b))

/-- Where each window's block sits. -/
theorem idx : ∀ t : Fin cfg1.N, win1_0.index t = ![0, (grid1.coords t 1).val]
    ∧ win1_1.index t = ![0, (grid1.coords t 0).val * 20 + (grid1.coords t 1).val]
    ∧ win1_2.index t = ![0, (grid1.coords t 0).val * 20 + (grid1.coords t 1).val]
    ∧ win1_3.index t = ![0, (grid1.coords t 0).val * 20 + (grid1.coords t 1).val]
    ∧ win1_4.index t = ![0, (grid1.coords t 0).val * 20 + (grid1.coords t 1).val]
    ∧ win1_5.index t = ![0, (grid1.coords t 0).val * 20 + (grid1.coords t 1).val] :=
  (by decide +kernel : ∀ t : Fin grid1.N, _)

variable (c : Dev nD) (t : Fin cfg1.N)

/-- The block of packed weights at a point. -/
theorem read0 (k : Fin 7168) (q : Fin 256) (i : S7168x5120.Idx)
    (h0 : (i 0).val = k.val) (h1 : (i 1).val = (grid1.coords t 1).val * 256 + q.val) : iblk V c 0 t (ix2 k q) = V c main_arg1 i := by
  blk_ext [iblk, idx t]

/-- The block of group scales at a point. -/
theorem read1 (k : Fin 56) (q : Fin 256) (i : S56x10240.Idx)
    (h0 : (i 0).val = k.val) (h1 : (i 1).val = ((grid1.coords t 0).val * 20 + (grid1.coords t 1).val) * 256 + q.val) :
    iblk V c 1 t (ix2 k q) = V c main_arg2 i := by
  blk_ext [iblk, idx t]

/-- The block of column scales at a point. -/
theorem read2 (u : Fin 1) (q : Fin 256) (i : S1x10240.Idx)
    (h1 : (i 1).val = ((grid1.coords t 0).val * 20 + (grid1.coords t 1).val) * 256 + q.val) :
    iblk V c 2 t (ix2 u q) = V c main_v2 i := by
  blk_ext [iblk, idx t]

/-- The body's loads are whole blocks. -/
theorem ld0 (x : Vec Ideal S56x256 .f32) : View.ld x r1_0 = x := View.ld_unit_zero (funext fun a => by fin_cases a <;> rfl) _ _

/-- The body's loads are whole blocks. -/
theorem ld2 (x : Vec Ideal S1x256 .f32) : View.ld x r1_2 = x := View.ld_unit_zero (funext fun a => by fin_cases a <;> rfl) _ _

/-- The body's loads are whole blocks. -/
theorem ld3 (x : Vec Ideal S7168x256 .i8) : View.ld x r1_3 = x := View.ld_unit_zero (funext fun a => by fin_cases a <;> rfl) _ _

/-- A column of a block. -/
theorem col_eq (q : Fin 256) (b : Fin 10240)
    (h1 : b.val = ((grid1.coords t 0).val * 20 + (grid1.coords t 1).val) * 256 + q.val) :
    col (iblk V c 1 t) q = gcol (V c main_arg2) b :=
  funext fun k => read1 V c t k q (ix2 k b) rfl h1

/-- A weight at a point of the grid. -/
theorem weight_point (r : Fin 7168) (q : Fin 256) (a : Fin 7168) (b : Fin 10240) (h0 : a.val = r.val)
    (h1 : b.val = ((grid1.coords t 0).val * 20 + (grid1.coords t 1).val) * 256 + q.val) :
    k1_pay1 (F := Ideal) (BitVec.ofNat 32 (grid1.coords t 0).val) (k1_pay11 (k1_pay2 (iblk V c 1 t)) (v83 (iblk V c 1 t))) (iblk V c 0 t) (ix2 r q)
      = weightsOf (V c main_arg1) (V c main_arg2) (ix2 a b) := by
  obtain rfl : a = r := Fin.ext h0
  have b0 : (grid1.coords t 0).val < 2 := (grid1.coords t 0).isLt
  have b1 : (grid1.coords t 1).val < 20 := (grid1.coords t 1).isLt
  have hd : b.val / 5120 = (grid1.coords t 0).val := by omega
  have hm : b.val % 5120 = (grid1.coords t 1).val * 256 + q.val := by omega
  have e83 : v83 (F := Ideal) (iblk V c 1 t) = k1_pay8 (k1_pay3 (iblk V c 1 t)) (k1_pay4 (iblk V c 1 t)) k1_pay5 := by
    unfold v83; rw [ld0]
  rw [e83]
  refine (weight_apply (iblk V c 1 t) (BitVec.ofNat 32 (grid1.coords t 0).val) (iblk V c 0 t) a q).trans ?_
  show _ = codeAt (V c main_arg1) a b * relScale (gcol (V c main_arg2) b) (group a)
  unfold codeAt half
  rw [hd, col_eq V c t q b h1, read0 V c t a q (ix2 a ⟨b.val % 5120, Nat.mod_lt _ (by norm_num)⟩) rfl hm]

/-- A column's scale at a point of the grid. -/
theorem col_point (u : Fin 1) (q : Fin 256) (a : Fin 1) (b : Fin 10240)
    (h1 : b.val = ((grid1.coords t 0).val * 20 + (grid1.coords t 1).val) * 256 + q.val) :
    k1_pay12 (F := Ideal) (v79 (F := Ideal) (iblk V c 1 t)) (iblk V c 2 t) (ix2 u q) = colsOf (V c main_arg2) (V c main_v2) (ix2 a b) := by
  have e79 : v79 (F := Ideal) (iblk V c 1 t) = k1_pay7 (k1_pay3 (iblk V c 1 t)) (k1_pay4 (iblk V c 1 t)) k1_pay5 := by
    unfold v79; rw [ld0]
  rw [e79]
  refine (colScale_apply (iblk V c 1 t) (iblk V c 2 t) u q).trans ?_
  show _ = colScale (gcol (V c main_arg2) b) * V c main_v2 (ix2 0 b)
  rw [col_eq V c t q b h1, read2 V c t u q (ix2 0 b) h1]

/-- A word at a point of the grid. -/
theorem ok_point (r : Fin 8) (q : Fin 256) (a : Fin 8) (b : Fin 10240)
    (h1 : b.val = ((grid1.coords t 0).val * 20 + (grid1.coords t 1).val) * 256 + q.val) :
    k1_pay10 (v77 (F := Ideal) (iblk V c 1 t)) (v79 (F := Ideal) (iblk V c 1 t)) (v83 (F := Ideal) (iblk V c 1 t))
      (k1_pay9 (F := Ideal) (k1_pay2 (iblk V c 1 t)) (k1_pay3 (iblk V c 1 t)) (k1_pay4 (iblk V c 1 t)) k1_pay5) (ix2 r q)
      = oksOf (V c main_arg2) (ix2 a b) := by
  have e77 : v77 (F := Ideal) (iblk V c 1 t) = k1_pay6 (k1_pay3 (iblk V c 1 t)) (k1_pay4 (iblk V c 1 t)) k1_pay5 := by
    unfold v77; rw [ld0]
  have e79 : v79 (F := Ideal) (iblk V c 1 t) = k1_pay7 (k1_pay3 (iblk V c 1 t)) (k1_pay4 (iblk V c 1 t)) k1_pay5 := by
    unfold v79; rw [ld0]
  have e83 : v83 (F := Ideal) (iblk V c 1 t) = k1_pay8 (k1_pay3 (iblk V c 1 t)) (k1_pay4 (iblk V c 1 t)) k1_pay5 := by
    unfold v83; rw [ld0]
  rw [e77, e79, e83]
  refine (ok_apply (iblk V c 1 t) r q).trans ?_
  show _ = okWord (gcol (V c main_arg2) b)
  rw [col_eq V c t q b h1]

/-- The array of folded weights. -/
theorem weights : (dat V c).arrAt 3 cfg1.N = weightsOf (V c main_arg1) (V c main_arg2) := by
  refine (dat V c).arrAt_eq_of_covers 3 _ (by decide +kernel) fun t _ y => ?_
  blk_simp
  rw [after1_3]
  frame_out
  rw [show y = ix2 (y 0) (y 1) from eq_ix2 y]
  refine (weight_point V c t (y 0) (y 1) _ _ ?_ ?_).trans (congrArg _ (eq_ix2 _).symm)
  · blk_simp [idx t]
  · blk_simp [idx t]

/-- The array of folded column scales. -/
theorem cols : (dat V c).arrAt 4 cfg1.N = colsOf (V c main_arg2) (V c main_v2) := by
  refine (dat V c).arrAt_eq_of_covers 4 _ (by decide +kernel) fun t _ y => ?_
  blk_simp
  rw [after1_4]
  frame_out
  rw [show y = ix2 (y 0) (y 1) from eq_ix2 y]
  refine (col_point V c t (y 0) (y 1) _ _ ?_).trans (congrArg _ (eq_ix2 _).symm)
  blk_simp [idx t]

/-- The array of words. -/
theorem oks : (dat V c).arrAt 5 cfg1.N = oksOf (V c main_arg2) := by
  refine (dat V c).arrAt_eq_of_covers 5 _ (by decide +kernel) fun t _ y => ?_
  blk_simp
  rw [after1_5]
  frame_out
  rw [show y = ix2 (y 0) (y 1) from eq_ix2 y]
  refine (ok_point V c t (y 0) (y 1) _ _ ?_).trans (congrArg _ (eq_ix2 _).symm)
  blk_simp [idx t]

end Cert.KernelIdeal.FoldValue

end
-- ==== Proof.Value.WideValue.lean ====
module

public import proofs.«01_k».proof.Proof.KernelIdeal.Wide
public import proofs.«01_k».proof.Proof.Value.Weight
public import Idealize.ShloMosaic.Lib.Pipeline.ValueKit
public import Idealize.ShloMosaic.Lib.Pipeline.Covers

@[expose] public section

set_option maxRecDepth 16384

noncomputable section

/-! What the wide product's array holds after its call, from the arrays it is given. -/

namespace Cert.KernelIdeal.WideValue

open Cert.KernelIdeal Cert.KernelIdeal.Gen Idealize.ShloMosaic Idealize.ShloMosaic.TcCoe Idealize.SL.Sem
open Idealize.ShloMosaic.Pipeline (Dat)
open Cert.KernelIdeal.Wide Cert.KernelIdeal.Weight

variable (V : (c : Dev nD) → (b : Ref sig .tc) → Buf (Elt Ideal) ((c : Thread nD τ).loc b))

/-- Where each window's block sits. -/
theorem idx : ∀ t : Fin cfg2.N, win2_0.index t = ![(grid2.coords t 2).val, 0] ∧ win2_1.index t = ![0, (grid2.coords t 1).val]
    ∧ win2_2.index t = ![0, (grid2.coords t 0).val * 20 + (grid2.coords t 1).val] ∧ win2_3.index t = ![(grid2.coords t 2).val, 0]
    ∧ win2_4.index t = ![0, (grid2.coords t 0).val * 20 + (grid2.coords t 1).val]
    ∧ win2_5.index t = ![(grid2.coords t 2).val, (grid2.coords t 0).val * 20 + (grid2.coords t 1).val] :=
  (by decide +kernel : ∀ t : Fin grid2.N, _)

variable (c : Dev nD) (t : Fin cfg2.N)

/-- The block of codes at a point. -/
theorem read0 (r : Fin 512) (k : Fin 7168) (i : S32768x7168.Idx)
    (h0 : (i 0).val = (grid2.coords t 2).val * 512 + r.val) (h1 : (i 1).val = k.val) : iblk V c 0 t (ix2 r k) = V c main_v1_0 i := by
  blk_ext [iblk, idx t]

/-- The block of packed weights at a point. -/
theorem read1 (k : Fin 7168) (q : Fin 256) (i : S7168x5120.Idx)
    (h0 : (i 0).val = k.val) (h1 : (i 1).val = (grid2.coords t 1).val * 256 + q.val) : iblk V c 1 t (ix2 k q) = V c main_arg1 i := by
  blk_ext [iblk, idx t]

/-- The block of group scales at a point. -/
theorem read2 (k : Fin 56) (q : Fin 256) (i : S56x10240.Idx)
    (h0 : (i 0).val = k.val) (h1 : (i 1).val = ((grid2.coords t 0).val * 20 + (grid2.coords t 1).val) * 256 + q.val) :
    iblk V c 2 t (ix2 k q) = V c main_arg2 i := by
  blk_ext [iblk, idx t]

/-- The block of row scales at a point. -/
theorem read3 (r : Fin 512) (u : Fin 1) (i : S32768x1.Idx)
    (h0 : (i 0).val = (grid2.coords t 2).val * 512 + r.val) : iblk V c 3 t (ix2 r u) = V c main_v1_1 i := by
  blk_ext [iblk, idx t]

/-- The block of column scales at a point. -/
theorem read4 (u : Fin 1) (q : Fin 256) (i : S1x10240.Idx)
    (h1 : (i 1).val = ((grid2.coords t 0).val * 20 + (grid2.coords t 1).val) * 256 + q.val) :
    iblk V c 4 t (ix2 u q) = V c main_case0b0_v9 i := by
  blk_ext [iblk, idx t]

/-- The payload at an index. -/
theorem pay_apply (i : grid2.Coords) (x0 : Vec Ideal S56x256 .f32) (x1 : Vec Ideal S7168x256 .i8) (x2 : Vec Ideal S512x7168 .fp8e4m3)
    (x3 : Vec Ideal S512x1 .f32) (x4 : Vec Ideal S1x256 .f32) (r : Fin 512) (q : Fin 256) :
    k2_pay1 (F := Ideal) i x0 x1 x2 x3 x4 (ix2 r q)
      = (∑ k : Fin 7168, x2 (ix2 r k) * (nib (BitVec.ofNat 32 (i 0).val) (x1 (ix2 k q)) * x0 (ix2 (group k) q))) * x3 (ix2 r 0) * x4 (ix2 0 q) := by
  pointwise [k2_pay1]
  rfl

/-- An element of the product at a point of the grid. -/
theorem point (r : Fin 512) (q : Fin 256) (a : Fin 32768) (b : Fin 10240)
    (h0 : a.val = (grid2.coords t 2).val * 512 + r.val)
    (h1 : b.val = ((grid2.coords t 0).val * 20 + (grid2.coords t 1).val) * 256 + q.val) :
    k2_pay1 (F := Ideal) (grid2.coords t) (iblk V c 2 t) (iblk V c 1 t) (iblk V c 0 t) (iblk V c 3 t) (iblk V c 4 t) (ix2 r q)
      = wideOf (V c main_v1_0) (V c main_arg1) (V c main_arg2) (V c main_v1_1) (V c main_case0b0_v9) (ix2 a b) := by
  have b0 : (grid2.coords t 0).val < 2 := (grid2.coords t 0).isLt
  have b1 : (grid2.coords t 1).val < 20 := (grid2.coords t 1).isLt
  have hd : b.val / 5120 = (grid2.coords t 0).val := by omega
  have hm : b.val % 5120 = (grid2.coords t 1).val * 256 + q.val := by omega
  refine (pay_apply (grid2.coords t) (iblk V c 2 t) (iblk V c 1 t) (iblk V c 0 t) (iblk V c 3 t) (iblk V c 4 t) r q).trans ?_
  unfold wideOf codeAt half
  refine Eq.trans ?_ (prod_apply _ _ _ _ a b).symm
  rw [hd, read3 V c t r 0 (ix2 a 0) h0, read4 V c t 0 q (ix2 0 b) h1]
  congr 2
  refine Finset.sum_congr rfl fun k _ => ?_
  rw [read0 V c t r k (ix2 a k) h0 rfl,
    read1 V c t k q (ix2 k ⟨b.val % 5120, Nat.mod_lt _ (by norm_num)⟩) rfl hm,
    read2 V c t (group k) q (ix2 (group k) b) rfl h1]

/-- The blocks cover the array. -/
theorem covers : (cfg2.win 5).Covers := by decide +kernel

/-- The array of the wide product. -/
theorem final : (dat V c).arrAt 5 cfg2.N = wideOf (V c main_v1_0) (V c main_arg1) (V c main_arg2) (V c main_v1_1) (V c main_case0b0_v9) := by
  refine (dat V c).arrAt_eq_of_covers 5 _ covers fun t _ y => ?_
  blk_simp
  rw [after2_5]
  frame_out
  rw [show y = ix2 (y 0) (y 1) from eq_ix2 y]
  refine (point V c t (y 0) (y 1) _ _ ?_ ?_).trans (congrArg _ (eq_ix2 _).symm)
  · blk_simp [idx t]
  · blk_simp [idx t]

end Cert.KernelIdeal.WideValue

end
-- ==== Proof.Value.NarrowValue.lean ====
module

public import proofs.«01_k».proof.Proof.KernelIdeal.Narrow
public import proofs.«01_k».proof.Proof.Value.Weight
public import Idealize.ShloMosaic.Lib.Pipeline.ValueKit

@[expose] public section

set_option maxRecDepth 16384

noncomputable section

/-! What the narrow product's array holds after its call, from the arrays it is given. -/

namespace Cert.KernelIdeal.NarrowValue

open Cert.KernelIdeal Cert.KernelIdeal.Gen Idealize.ShloMosaic Idealize.ShloMosaic.TcCoe Idealize.SL.Sem
open Idealize.ShloMosaic.Pipeline (Dat)
open Cert.KernelIdeal.Narrow Cert.KernelIdeal.Weight

variable (V : (c : Dev nD) → (b : Ref sig .tc) → Buf (Elt Ideal) ((c : Thread nD τ).loc b))

/-- The narrow product: the weights are an array of their own. -/
def narrowOf (X : FVec Ideal S32768x7168 .fp8e4m3) (W : FVec Ideal S7168x10240 .fp8e4m3)
    (xs : FVec Ideal S32768x1 .f32) (cs : FVec Ideal S1x10240 .f32) : FVec Ideal S32768x10240 .bf16 :=
  prod X (fun k n => W (ix2 k n)) xs cs

/-- Where each window's block sits. -/
theorem idx : ∀ t : Fin cfg3.N, win3_0.index t = ![(grid3.coords t 1).val, 0] ∧ win3_1.index t = ![0, (grid3.coords t 0).val]
    ∧ win3_2.index t = ![(grid3.coords t 1).val, 0] ∧ win3_3.index t = ![0, (grid3.coords t 0).val]
    ∧ win3_4.index t = ![(grid3.coords t 1).val, (grid3.coords t 0).val] :=
  (by decide +kernel : ∀ t : Fin grid3.N, _)

variable (c : Dev nD) (t : Fin cfg3.N)

/-- The block of codes at a point. -/
theorem read0 (r : Fin 1024) (k : Fin 7168) (i : S32768x7168.Idx)
    (h0 : (i 0).val = (grid3.coords t 1).val * 1024 + r.val) (h1 : (i 1).val = k.val) : iblk V c 0 t (ix2 r k) = V c main_v1_0 i := by
  blk_ext [iblk, idx t]

/-- The block of weights at a point. -/
theorem read1 (k : Fin 7168) (q : Fin 1024) (i : S7168x10240.Idx)
    (h0 : (i 0).val = k.val) (h1 : (i 1).val = (grid3.coords t 0).val * 1024 + q.val) : iblk V c 1 t (ix2 k q) = V c main_v3_0 i := by
  blk_ext [iblk, idx t]

/-- The block of row scales at a point. -/
theorem read2 (r : Fin 1024) (u : Fin 1) (i : S32768x1.Idx)
    (h0 : (i 0).val = (grid3.coords t 1).val * 1024 + r.val) : iblk V c 2 t (ix2 r u) = V c main_v1_1 i := by
  blk_ext [iblk, idx t]

/-- The block of column scales at a point. -/
theorem read3 (u : Fin 1) (q : Fin 1024) (i : S1x10240.Idx)
    (h1 : (i 1).val = (grid3.coords t 0).val * 1024 + q.val) : iblk V c 3 t (ix2 u q) = V c main_v3_1 i := by
  blk_ext [iblk, idx t]

/-- The payload at an index. -/
theorem pay_apply (x0 : Vec Ideal S1024x7168 .fp8e4m3) (x1 : Vec Ideal S7168x1024 .fp8e4m3)
    (x2 : Vec Ideal S1024x1 .f32) (x3 : Vec Ideal S1x1024 .f32) (r : Fin 1024) (q : Fin 1024) :
    k3_pay1 (F := Ideal) x0 x1 x2 x3 (ix2 r q)
      = (∑ k : Fin 7168, x0 (ix2 r k) * x1 (ix2 k q)) * x2 (ix2 r 0) * x3 (ix2 0 q) := by
  pointwise [k3_pay1]

/-- An element of the product at a point of the grid. -/
theorem point (r : Fin 1024) (q : Fin 1024) (a : Fin 32768) (b : Fin 10240)
    (h0 : a.val = (grid3.coords t 1).val * 1024 + r.val)
    (h1 : b.val = (grid3.coords t 0).val * 1024 + q.val) :
    k3_pay1 (F := Ideal) (iblk V c 0 t) (iblk V c 1 t) (iblk V c 2 t) (iblk V c 3 t) (ix2 r q)
      = narrowOf (V c main_v1_0) (V c main_v3_0) (V c main_v1_1) (V c main_v3_1) (ix2 a b) := by
  refine (pay_apply (iblk V c 0 t) (iblk V c 1 t) (iblk V c 2 t) (iblk V c 3 t) r q).trans ?_
  unfold narrowOf
  refine Eq.trans ?_ (prod_apply _ _ _ _ a b).symm
  rw [read2 V c t r 0 (ix2 a 0) h0, read3 V c t 0 q (ix2 0 b) h1]
  congr 2
  refine Finset.sum_congr rfl fun k _ => ?_
  rw [read0 V c t r k (ix2 a k) h0 rfl, read1 V c t k q (ix2 k b) rfl h1]

/-- The blocks cover the array. -/
theorem covers : (cfg3.win 4).Covers := by decide +kernel

/-- The array of the narrow product. -/
theorem final : (dat V c).arrAt 4 cfg3.N = narrowOf (V c main_v1_0) (V c main_v3_0) (V c main_v1_1) (V c main_v3_1) := by
  refine (dat V c).arrAt_eq_of_covers 4 _ covers fun t _ y => ?_
  blk_simp
  rw [after3_4]
  frame_out
  rw [show y = ix2 (y 0) (y 1) from eq_ix2 y]
  refine (point V c t (y 0) (y 1) _ _ ?_ ?_).trans (congrArg _ (eq_ix2 _).symm)
  · blk_simp [idx t]
  · blk_simp [idx t]

end Cert.KernelIdeal.NarrowValue

end
-- ==== Proof.Value.Words.lean ====
module

public import Idealize.ShloMosaic.PureOps

@[expose] public section

set_option maxRecDepth 65536

/-! Facts on exponent fields and on four-bit codes as words, checked case by case. -/

namespace Cert.Column

open Idealize.ShloMosaic

/-- Exponents compare as the numbers they are. -/
theorem maxsi_nat : ∀ a b : Fin 256, IntOp.maxsi (BitVec.ofNat 32 a.val) (BitVec.ofNat 32 b.val) = BitVec.ofNat 32 (max a.val b.val) := by
  decide +kernel

/-- Every exponent is above the start of the search for the largest. -/
theorem maxsi_start : ∀ a : Fin 256, IntOp.maxsi (BitVec.ofNat 32 a.val) 2147483648#32 = BitVec.ofNat 32 a.val := by
  decide +kernel

/-- A column exponent is within its bounds. -/
theorem top_bounds : ∀ T : Fin 256, IntOp.cmpi .sle (IntOp.absi (IntOp.subi (BitVec.ofNat 32 T.val) 127#32)) 60#32 = 1#1 →
    67 ≤ T.val ∧ T.val ≤ 187 := by
  decide +kernel

/-- A relative exponent is within its bound. -/
theorem rel_bounds : ∀ n T : Fin 256,
    IntOp.cmpi .sge (IntOp.addi (IntOp.subi (BitVec.ofNat 32 n.val) (BitVec.ofNat 32 T.val)) 5#32) 4294967287#32 = 1#1 →
    n.val ≤ T.val → T.val ≤ n.val + 14 ∧ IntOp.addi (IntOp.addi (IntOp.subi (BitVec.ofNat 32 n.val) (BitVec.ofNat 32 T.val)) 5#32) 127#32
      = BitVec.ofNat 32 (n.val + 132 - T.val) := by
  decide +kernel

/-- The column's own exponent field. -/
theorem col_field : ∀ T : Fin 256, 67 ≤ T.val →
    IntOp.addi (IntOp.subi (IntOp.subi (BitVec.ofNat 32 T.val) 127#32) 5#32) 127#32 = BitVec.ofNat 32 (T.val - 5) := by
  decide +kernel

/-- An exponent field that is not zero is at least one. -/
theorem ne_zero : ∀ n : Fin 256, IntOp.cmpi .ne (BitVec.ofNat 32 n.val) 0#32 = 1#1 → 1 ≤ n.val := by
  decide +kernel

end Cert.Column
-- ==== Proof.Value.Exact.lean ====
module

public import proofs.«01_k».proof.Proof.Value.Column
public import proofs.«01_k».proof.Proof.Value.Words
public import Idealize.ShloMosaic.Lib.IdealHost

@[expose] public section

set_option maxRecDepth 65536

noncomputable section

/-! A column whose word is not zero: its scales are the products of their two parts, all finite. -/

namespace Cert.Column

open Idealize.ShloMosaic Cert.Scale

variable {n : ℕ} (g : Fin n → EReal)

/-- The word is zero unless every bit is one. -/
theorem okBit_of_okWord (b : Fin n → BitVec 1) (h : Finset.univ.fold IntOp.minsi 2147483647#32 (fun k => (b k).setWidth 32) ≠ 0#32) :
    ∀ k, b k = 1#1 := by
  have key : ∀ s : Finset (Fin n), s.fold IntOp.minsi 2147483647#32 (fun k => (b k).setWidth 32) = 0#32 ∨
      ((s.fold IntOp.minsi 2147483647#32 (fun k => (b k).setWidth 32) = 1#32 ∨
        s.fold IntOp.minsi 2147483647#32 (fun k => (b k).setWidth 32) = 2147483647#32) ∧ ∀ k ∈ s, b k = 1#1) := by
    intro s
    induction s using Finset.induction_on with
    | empty => exact Or.inr ⟨Or.inr (by simp), by simp⟩
    | insert a s ha ih =>
      rw [Finset.fold_insert ha]
      rcases (by decide : ∀ x : BitVec 1, x = 0#1 ∨ x = 1#1) (b a) with e | e
      · left
        rw [e]
        rcases ih with h | ⟨h | h, -⟩ <;> rw [h] <;> decide
      · rcases ih with h | ⟨h, hs⟩
        · left; rw [e, h]; decide
        · right
          refine ⟨Or.inl ?_, fun k hk => ?_⟩
          · rcases h with h | h <;> rw [e, h] <;> decide
          · rcases Finset.mem_insert.mp hk with rfl | hk
            · exact e
            · exact hs k hk
  rcases key Finset.univ with h' | ⟨-, h'⟩
  · exact absurd h' h
  · exact fun k => h' k (Finset.mem_univ k)

/-- Every exponent is at most the largest. -/
theorem top_spec (k₀ : Fin n) : ∃ T : Fin 256, top g = BitVec.ofNat 32 T.val ∧
    ∀ k, ∃ e : Fin 256, exp g k = BitVec.ofNat 32 e.val ∧ e.val ≤ T.val := by
  have he : ∀ k, ∃ e : Fin 256, exp g k = BitVec.ofNat 32 e.val := fun k => by
    obtain ⟨m, hm, hb⟩ := search_spec (max (g k) (-(g k)))
    exact ⟨⟨m, by have := hb.2.2; omega⟩, hm⟩
  choose e he using he
  have key : ∀ s : Finset (Fin n), (s = ∅ ∧ s.fold IntOp.maxsi 2147483648#32 (exp g) = 2147483648#32) ∨
      ∃ T : Fin 256, s.fold IntOp.maxsi 2147483648#32 (exp g) = BitVec.ofNat 32 T.val ∧ ∀ k ∈ s, (e k).val ≤ T.val := by
    intro s
    induction s using Finset.induction_on with
    | empty => exact Or.inl ⟨rfl, by simp⟩
    | insert a s ha ih =>
      right
      rw [Finset.fold_insert ha, he a]
      rcases ih with ⟨rfl, h⟩ | ⟨T, h, hs⟩
      · refine ⟨e a, by rw [h, maxsi_start], fun k hk => ?_⟩
        rcases Finset.mem_insert.mp hk with rfl | hk
        · exact le_rfl
        · exact absurd hk (by simp)
      · refine ⟨⟨max (e a).val T.val, max_lt (e a).isLt T.isLt⟩, by rw [h, maxsi_nat], fun k hk => ?_⟩
        rcases Finset.mem_insert.mp hk with rfl | hk
        · exact le_max_left _ _
        · exact (hs k hk).trans (le_max_right _ _)
  rcases key Finset.univ with ⟨h, -⟩ | ⟨T, h, hs⟩
  · exact absurd (Finset.mem_univ k₀) (by rw [h]; simp)
  · exact ⟨T, h, fun k => ⟨e k, he k, hs k (Finset.mem_univ k)⟩⟩

/-- Two bits whose conjunction is one are one. -/
theorem and_one : ∀ a b : BitVec 1, IntOp.andi a b = 1#1 → a = 1#1 ∧ b = 1#1 := by decide

/-- Minus one. -/
theorem neg_one : Ideal.ofBits .f32 0xBF800000#32 = ((-1 : ℝ) : EReal) := by
  have h : ∀ w : BitVec 32, (w.extractLsb' 31 1 == 1#1) = true → (w.extractLsb' 23 8).toNat = 127 → (w.extractLsb' 0 23).toNat = 0 →
      Ideal.ofBits .f32 w = ((-1 : ℝ) : EReal) := fun w hs he hf => by
    show Ideal.ieee 8 23 w = _
    unfold Ideal.ieee
    simp only [hs, he, hf]
    norm_num
  exact h _ (by decide) (by decide) (by decide)

/-- A number of positive finite magnitude is the magnitude with its sign. -/
theorem sgn_spec (x : EReal) (r : ℝ) (hr : 0 < r) (h : max x (-x) = (r : EReal)) :
    ∃ s : ℝ, sgn x = (s : EReal) ∧ x = ((s * r : ℝ) : EReal) := by
  have z : Ideal.ofBits .f32 0x00000000#32 = 0 := Ideal.ofBits_zero_f32
  have o : Ideal.ofBits .f32 0x3F800000#32 = ((1 : ℝ) : EReal) := by
    rw [Ideal.ofBits_one_f32]; rfl
  have m : Ideal.ofBits .f32 0xBF800000#32 = ((-1 : ℝ) : EReal) := by
    exact neg_one
  unfold sgn
  rw [z, o, m]
  rcases lt_or_ge x 0 with hx | hx
  · refine ⟨-1, ?_, ?_⟩
    · have : Ideal.cmp .olt x 0 = 1#1 := by simp [Ideal.cmp, hx]
      rw [this]; rfl
    · have h1 : max x (-x) = -x := max_eq_right (hx.le.trans (EReal.neg_nonneg.mpr hx.le))
      rw [h1] at h
      rw [← neg_neg x, h]
      simp
  · refine ⟨1, ?_, ?_⟩
    · have : Ideal.cmp .olt x 0 = 0#1 := by simp [Ideal.cmp, not_lt.mpr hx]
      rw [this]; rfl
    · have h1 : max x (-x) = x := max_eq_left ((EReal.neg_le_zero.mpr hx).trans hx)
      rw [h1] at h
      rw [h]; simp

/-- A column that folds: its scale is a positive real and each of its scales is its part times that. -/
theorem exact (k₀ : Fin n) (h : okWord g ≠ 0#32) :
    ∃ K : ℝ, 0 < K ∧ colScale g = (K : EReal) ∧ ∀ k, ∃ r : ℝ, relScale g k = (r : EReal) ∧ g k = ((r * K : ℝ) : EReal) := by
  obtain ⟨T, hT, he⟩ := top_spec g k₀
  have hb := okBit_of_okWord (okBit g) h
  have hb' : ∀ k, _ := fun k => and_one _ _ (hb k)
  obtain ⟨t1, t2⟩ := top_bounds T (by rw [← hT]; exact (hb' k₀).2)
  have hK : colScale g = (((2 : ℝ) ^ (((T.val - 5 : ℕ) : ℤ) - 127) : ℝ) : EReal) := by
    unfold colScale
    rw [hT, col_field T t1]
    exact pow_eq (T.val - 5) (by omega) (by omega)
  refine ⟨_, by positivity, hK, fun k => ?_⟩
  obtain ⟨e, hek, hle⟩ := he k
  obtain ⟨h2, h3⟩ := and_one _ _ (hb' k).1
  obtain ⟨h4, h5⟩ := and_one _ _ h2
  have e1 : 1 ≤ e.val := ne_zero e (by rw [← hek]; exact h5)
  obtain ⟨r1, r2⟩ := rel_bounds e T (by rw [← hek, ← hT]; exact h3) hle
  have hm : max (g k) (-(g k)) = (((2 : ℝ) ^ ((e.val : ℤ) - 127) : ℝ) : EReal) := by
    rw [← pow_eq e.val e1 (by omega), ← hek]
    by_contra hne
    have : Ideal.cmp .oeq (max (g k) (-(g k))) (pow (exp g k)) = 0#1 := by simp [Ideal.cmp, hne]
    rw [this] at h4
    exact absurd h4 (by decide)
  obtain ⟨s, hs, hg⟩ := sgn_spec (g k) _ (by positivity) hm
  refine ⟨(2 : ℝ) ^ (((e.val + 132 - T.val : ℕ) : ℤ) - 127) * s, ?_, ?_⟩
  · unfold relScale rel
    rw [hs, hek, hT, r2, pow_eq (e.val + 132 - T.val) (by omega) (by omega), ← EReal.coe_mul]
  · rw [hg]
    congr 1
    rw [mul_comm _ s, mul_assoc, ← zpow_add₀ (by norm_num : (2 : ℝ) ≠ 0)]
    rw [show ((e.val + 132 - T.val : ℕ) : ℤ) - 127 + (((T.val - 5 : ℕ) : ℤ) - 127) = (e.val : ℤ) - 127 by omega]

/-- A positive real factor comes out of a sum. -/
theorem sum_mul {ι : Type} (s : Finset ι) (f : ι → EReal) (K : ℝ) (hK : 0 < K) : ∑ k ∈ s, f k * (K : EReal) = (∑ k ∈ s, f k) * (K : EReal) := by
  classical
  induction s using Finset.induction_on with
  | empty => simp
  | insert a s ha ih =>
    rw [Finset.sum_insert ha, Finset.sum_insert ha, ih,
      EReal.right_distrib_of_nonneg_of_ne_top (by exact_mod_cast hK.le) (EReal.coe_ne_top K)]

/-- A row times a column that folds, scaled by the column's scale, is the row times the column. -/
theorem dot_eq {ι : Type} [Fintype ι] (k₀ : Fin n) (h : okWord g ≠ 0#32) (x c : ι → EReal) (gr : ι → Fin n) (xs ws : EReal) :
    (∑ k, x k * (c k * relScale g (gr k))) * xs * (colScale g * ws) = (∑ k, x k * (c k * g (gr k))) * xs * ws := by
  obtain ⟨K, hK, hc, hr⟩ := exact g k₀ h
  have : ∑ k, x k * (c k * g (gr k)) = (∑ k, x k * (c k * relScale g (gr k))) * (K : EReal) := by
    rw [← sum_mul _ _ _ hK]
    refine Finset.sum_congr rfl fun k _ => ?_
    obtain ⟨r, h1, h2⟩ := hr (gr k)
    rw [h1, h2, EReal.coe_mul, mul_assoc, mul_assoc]
  rw [this, hc]
  generalize (∑ k, x k * (c k * relScale g (gr k))) = S
  rw [mul_assoc S (K : EReal) xs, mul_comm (K : EReal) xs, ← mul_assoc S xs, mul_assoc (S * xs) (K : EReal) ws]

end Cert.Column

end
-- ==== Proof.Value.Arrays.lean ====
module

public import proofs.«01_k».proof.Proof.KernelIdeal.Run
public import proofs.«01_k».proof.Proof.Value.QuantizeValue
public import proofs.«01_k».proof.Proof.Value.FoldValue
public import proofs.«01_k».proof.Proof.Value.WideValue
public import proofs.«01_k».proof.Proof.Value.NarrowValue
public import proofs.«01_k».proof.Proof.Value.Exact
public import Idealize.ShloMosaic.Lib.Pipeline.FrameTail
public import Idealize.ShloMosaic.Lib.ReduceAll
public import Idealize.ShloMosaic.Lib.WordArith

@[expose] public section

set_option maxRecDepth 16384

noncomputable section

/-! The program's arrays as it runs, from its arguments. -/

namespace Cert.KernelIdeal.Arrays

open Cert.KernelIdeal Cert.KernelIdeal.Gen Cert.KernelIdeal.Run Idealize.ShloMosaic Idealize.ShloMosaic.TcCoe Idealize.SL.Sem
open Idealize.ShloMosaic.Pipeline (Dat afterRegion)
open Cert.KernelIdeal.QuantizeValue Cert.KernelIdeal.Weight Cert.KernelIdeal.FoldValue

variable (m : (ℓ : Loc nD τ sig) → Buf (Elt Ideal) ℓ) (c : Dev nD)

/-- The rows of the first argument. -/
def rows (x : FVec Ideal S4x8192x7168 .bf16) : FVec Ideal S32768x7168 .bf16 := shapeCast S32768x7168 x Facts₀.shapeCasts_S4x8192x7168_S32768x7168

/-- The last argument as a row. -/
def cols (w : FVec Ideal S10240 .f32) : FVec Ideal S1x10240 .f32 := shapeCast S1x10240 w Facts₀.shapeCasts_S10240_S1x10240

/-- The arguments. -/
abbrev arg0 : FVec Ideal S4x8192x7168 .bf16 := m ((c : Thread nD τ).loc main_arg0)
/-- The second. -/
abbrev arg1 : Vec Ideal S7168x5120 .i8 := m ((c : Thread nD τ).loc main_arg1)
/-- The third. -/
abbrev arg2 : Vec Ideal S56x10240 .f32 := m ((c : Thread nD τ).loc main_arg2)
/-- The fourth. -/
abbrev arg3 : FVec Ideal S10240 .f32 := m ((c : Thread nD τ).loc main_arg3)

theorem V1_rows : V1 m c main_v0 = rows (arg0 m c) := by
  unfold V1
  rw [StableHlo.after_cons, StableHlo.after_nil, StableHlo.reshape_result]
  rfl

theorem V2_codes : V2 m c main_v1_0 = codesOf (rows (arg0 m c)) := by
  unfold V2
  refine (Pipeline.afterRegion_arr (d0 m c) (V1 m c) launch0.win.arr_inj 1).trans ?_
  refine (QuantizeValue.codes (fun c b => V1 m c b) c).trans ?_
  exact congrArg codesOf (V1_rows m c)

theorem V2_scales : V2 m c main_v1_1 = scalesOf (rows (arg0 m c)) := by
  unfold V2
  refine (Pipeline.afterRegion_arr (d0 m c) (V1 m c) launch0.win.arr_inj 2).trans ?_
  refine (QuantizeValue.scales (fun c b => V1 m c b) c).trans ?_
  exact congrArg scalesOf (V1_rows m c)

theorem V2_arg1 : V2 m c main_arg1 = arg1 m c := (V2_of m c _ (by decide)).trans (V1_of m c _ (by decide))
theorem V2_arg2 : V2 m c main_arg2 = arg2 m c := (V2_of m c _ (by decide)).trans (V1_of m c _ (by decide))
theorem V2_arg3 : V2 m c main_arg3 = arg3 m c := (V2_of m c _ (by decide)).trans (V1_of m c _ (by decide))

theorem V3_arg1 : V3 m c main_arg1 = arg1 m c := (V3_of m c _ (by decide)).trans (V2_arg1 m c)
theorem V3_arg2 : V3 m c main_arg2 = arg2 m c := (V3_of m c _ (by decide)).trans (V2_arg2 m c)

theorem V3_cols : V3 m c main_v2 = cols (arg3 m c) := by
  unfold V3
  rw [StableHlo.after_cons, StableHlo.after_nil, StableHlo.reshape_result]
  exact congrArg cols (V2_arg3 m c)

theorem V4_weights : V4 m c main_v3_0 = weightsOf (arg1 m c) (arg2 m c) := by
  unfold V4
  refine (Pipeline.afterRegion_arr (d1 m c) (V3 m c) launch1.win.arr_inj 3).trans ?_
  refine (FoldValue.weights (fun c b => V3 m c b) c).trans ?_
  exact congrArg₂ weightsOf (V3_arg1 m c) (V3_arg2 m c)

theorem V4_cols : V4 m c main_v3_1 = colsOf (arg2 m c) (cols (arg3 m c)) := by
  unfold V4
  refine (Pipeline.afterRegion_arr (d1 m c) (V3 m c) launch1.win.arr_inj 4).trans ?_
  refine (FoldValue.cols (fun c b => V3 m c b) c).trans ?_
  exact congrArg₂ colsOf (V3_arg2 m c) (V3_cols m c)

theorem V4_oks : V4 m c main_v3_2 = oksOf (arg2 m c) := by
  unfold V4
  refine (Pipeline.afterRegion_arr (d1 m c) (V3 m c) launch1.win.arr_inj 5).trans ?_
  refine (FoldValue.oks (fun c b => V3 m c b) c).trans ?_
  exact congrArg oksOf (V3_arg2 m c)

/-- The conjunction over all words that they are not zero. -/
def allOk (o : IVec S8x10240 32) : IVec S_ 1 :=
  Host.reduce IntOp.andi (cmpi .ne o (broadcastInDim S8x10240 ![] Facts₀.bcast_S_S8x10240 (constantI S_ 32 0#32))) (constantI S_ 1 1#1)
    Facts₀.reducesTo_S8x10240_S_d0_1 Facts₀.h_S_

theorem V5_all : V5 m c main_v6 = allOk (oksOf (arg2 m c)) := by
  rw [← V4_oks]
  unfold V5
  generalize V4 m c = V
  simp only [StableHlo.after_cons, StableHlo.after_nil]
  repeat (first
    | rw [StableHlo.nullary_result] | rw [StableHlo.unary_result] | rw [StableHlo.binary_result])
  rfl

/-- The word that the branch reads is that conjunction. -/
theorem word_eq : word m c = (allOk (oksOf (arg2 m c)) HostLoop.idx0).setWidth 32 := by
  rw [← V5_all]
  unfold word V6
  rw [StableHlo.after_cons, StableHlo.after_nil]
  generalize V5 m c = V
  rw [StableHlo.unary_result]
  rfl

/-- The second arm runs only if no word is zero. -/
theorem ok_of_branch (h : HostLoop.branch (word m c) 1 ≠ 0) (b : Fin 10240) : Column.okWord (gcol (arg2 m c) b) ≠ 0#32 := by
  rw [word_eq] at h
  have h1 : allOk (oksOf (arg2 m c)) HostLoop.idx0 = 1#1 := by
    rcases (by decide : ∀ x : BitVec 1, x = 0#1 ∨ x = 1#1) (allOk (oksOf (arg2 m c)) HostLoop.idx0) with e | e
    · rw [e] at h; exact absurd (by decide) h
    · exact e
  unfold allOk at h1
  have := Host.reduce_andi_eq_one _ _ _ _ _ h1 (ix2 0 b) (funext fun i => i.elim0)
  intro h0
  have h2 : IntOp.cmpi .ne (oksOf (arg2 m c) (ix2 0 b)) 0#32 = 1#1 := this
  rw [show oksOf (arg2 m c) (ix2 0 b) = Column.okWord (gcol (arg2 m c) b) from rfl, h0] at h2
  exact absurd h2 (by decide)

theorem V6_codes : V6 m c main_v1_0 = codesOf (rows (arg0 m c)) :=
  (V6_of m c _ (by decide)).trans <| (V5_of m c _ (by decide)).trans <| (V4_of m c _ (by decide)).trans <| (V3_of m c _ (by decide)).trans (V2_codes m c)
theorem V6_scales : V6 m c main_v1_1 = scalesOf (rows (arg0 m c)) :=
  (V6_of m c _ (by decide)).trans <| (V5_of m c _ (by decide)).trans <| (V4_of m c _ (by decide)).trans <| (V3_of m c _ (by decide)).trans (V2_scales m c)
theorem V6_arg1 : V6 m c main_arg1 = arg1 m c :=
  (V6_of m c _ (by decide)).trans <| (V5_of m c _ (by decide)).trans <| (V4_of m c _ (by decide)).trans (V3_arg1 m c)
theorem V6_arg2 : V6 m c main_arg2 = arg2 m c :=
  (V6_of m c _ (by decide)).trans <| (V5_of m c _ (by decide)).trans <| (V4_of m c _ (by decide)).trans (V3_arg2 m c)
theorem V6_arg3 : V6 m c main_arg3 = arg3 m c :=
  (V6_of m c _ (by decide)).trans <| (V5_of m c _ (by decide)).trans <| (V4_of m c _ (by decide)).trans <| (V3_of m c _ (by decide)).trans (V2_arg3 m c)
theorem V6_weights : V6 m c main_v3_0 = weightsOf (arg1 m c) (arg2 m c) :=
  (V6_of m c _ (by decide)).trans <| (V5_of m c _ (by decide)).trans (V4_weights m c)
theorem V6_cols : V6 m c main_v3_1 = colsOf (arg2 m c) (cols (arg3 m c)) :=
  (V6_of m c _ (by decide)).trans <| (V5_of m c _ (by decide)).trans (V4_cols m c)

theorem V7_cols : V7 m c main_case0b0_v9 = cols (arg3 m c) := by
  unfold V7
  rw [StableHlo.after_cons, StableHlo.after_nil, StableHlo.reshape_result]
  exact congrArg cols (V6_arg3 m c)

/-- The result of the first arm. -/
theorem V8_out : V8 m c main_v8 = wideOf (codesOf (rows (arg0 m c))) (arg1 m c) (arg2 m c) (scalesOf (rows (arg0 m c))) (cols (arg3 m c)) := by
  unfold V8
  rw [StableHlo.after_cons, StableHlo.after_nil, StableHlo.unary_result]
  refine (Pipeline.afterRegion_arr (d2 m c) (V7 m c) launch2.win.arr_inj 5).trans ?_
  refine (WideValue.final (fun c b => V7 m c b) c).trans ?_
  rw [(V7_of m c main_v1_0 (by decide)).trans (V6_codes m c), (V7_of m c main_arg1 (by decide)).trans (V6_arg1 m c),
    (V7_of m c main_arg2 (by decide)).trans (V6_arg2 m c), (V7_of m c main_v1_1 (by decide)).trans (V6_scales m c), V7_cols m c]

/-- The result of the second arm. -/
theorem V9_out : V9 m c main_v8 = NarrowValue.narrowOf (codesOf (rows (arg0 m c))) (weightsOf (arg1 m c) (arg2 m c)) (scalesOf (rows (arg0 m c)))
    (colsOf (arg2 m c) (cols (arg3 m c))) := by
  unfold V9
  rw [StableHlo.after_cons, StableHlo.after_nil, StableHlo.unary_result]
  refine (Pipeline.afterRegion_arr (d3 m c) (V6 m c) launch3.win.arr_inj 4).trans ?_
  refine (NarrowValue.final (fun c b => V6 m c b) c).trans ?_
  rw [V6_codes m c, V6_weights m c, V6_scales m c, V6_cols m c]

/-- The codes at the end. -/
theorem VZ_codes : VZ m c main_v1_0 = codesOf (rows (arg0 m c)) :=
  (VZ_of m c main_v1_0 (by decide) (by decide) (by decide)).trans (V6_codes m c)

/-- The scales at the end. -/
theorem VZ_scales : VZ m c main_v1_1 = scalesOf (rows (arg0 m c)) :=
  (VZ_of m c main_v1_1 (by decide) (by decide) (by decide)).trans (V6_scales m c)

/-- The product of folded weights is the product of the weights, when every column folds. -/
theorem narrow_eq (X : FVec Ideal S32768x7168 .fp8e4m3) (P : Vec Ideal S7168x5120 .i8) (G : Vec Ideal S56x10240 .f32)
    (xs : FVec Ideal S32768x1 .f32) (ws : FVec Ideal S1x10240 .f32) (h : ∀ b, Column.okWord (gcol G b) ≠ 0#32) :
    NarrowValue.narrowOf X (weightsOf P G) xs (colsOf G ws) = wideOf X P G xs ws := by
  funext i
  exact Column.dot_eq (gcol G (i 1)) 0 (h (i 1)) (fun k => X (ix2 (i 0) k)) (fun k => codeAt P k (i 1)) group (xs (ix2 (i 0) 0)) (ws (ix2 0 (i 1)))

/-- The product at the end. -/
theorem VZ_out : VZ m c main_v8 = wideOf (codesOf (rows (arg0 m c))) (arg1 m c) (arg2 m c) (scalesOf (rows (arg0 m c))) (cols (arg3 m c)) := by
  unfold VZ
  by_cases h : HostLoop.branch (word m c) 1 = 0
  · unfold VA
    rw [if_pos h]
    exact V8_out m c
  · have hok := ok_of_branch m c h
    unfold VA
    rw [if_neg h]
    exact (V9_out m c).trans (narrow_eq _ _ _ _ _ hok)

end Cert.KernelIdeal.Arrays

end
-- ==== Proof.Value.RefBits.lean ====
module

public import Idealize.ShloMosaic.PureOps.Ideal
public import Mathlib.Tactic.NormNum

@[expose] public section

noncomputable section

/-! The least value as a constant. -/

namespace Cert.Scale

open Idealize.ShloMosaic

/-- The reading of the bits of an f32. -/
theorem bits_f32 (w : BitVec 32) : Ideal.ofBits .f32 w = Ideal.ieee 8 23 w := rfl

/-- The accumulator of a largest element is the least value. -/
theorem bot_f32 : Ideal.ofBits .f32 0xFF800000#32 = ⊥ := by
  rw [bits_f32]
  unfold Ideal.ieee
  simp only [show ((0xFF800000#32).extractLsb' (8 + 23) 1 == 1#1) = true from by decide,
    show ((0xFF800000#32).extractLsb' 23 8).toNat = 255 from by decide, show ((0xFF800000#32).extractLsb' 0 23).toNat = 0 from by decide]
  norm_num

end Cert.Scale

end
-- ==== Proof.Value.Nibble.lean ====
module

public import Idealize.ShloMosaic.PureOps.Ideal
public import Idealize.ShloMosaic.PureOps

@[expose] public section

noncomputable section

/-! The two four-bit codes of a byte: the reference's sign extension and the program's are one number. -/

namespace Cert.Column

open Idealize.ShloMosaic

/-- The low four bits of a byte, taken as a signed number in two ways. -/
theorem low_code : ∀ p : BitVec 8,
    (Scalar.select (IntOp.cmpi .sge (BitVec.setWidth 8 (IntOp.andi (BitVec.setWidth 32 p) 15#32)) 8#8)
        (IntOp.subi (BitVec.setWidth 8 (IntOp.andi (BitVec.setWidth 32 p) 15#32)) 16#8) (BitVec.setWidth 8 (IntOp.andi (BitVec.setWidth 32 p) 15#32))).toInt
      = (IntOp.subi (IntOp.xori (IntOp.andi (IntOp.shrui .vector (BitVec.setWidth 32 p) (Scalar.muli 4#32 0#32)) 15#32) 8#32) 8#32).toInt := by
  decide +kernel

/-- The high four bits of a byte, taken as a signed number in two ways. -/
theorem high_code : ∀ p : BitVec 8,
    (Scalar.select (IntOp.cmpi .sge (BitVec.setWidth 8 (IntOp.shrsi .vector (BitVec.setWidth 32 p) 4#32)) 8#8)
        (IntOp.subi (BitVec.setWidth 8 (IntOp.shrsi .vector (BitVec.setWidth 32 p) 4#32)) 16#8)
        (BitVec.setWidth 8 (IntOp.shrsi .vector (BitVec.setWidth 32 p) 4#32))).toInt
      = (IntOp.subi (IntOp.xori (IntOp.andi (IntOp.shrui .vector (BitVec.setWidth 32 p) (Scalar.muli 4#32 1#32)) 15#32) 8#32) 8#32).toInt := by
  decide +kernel

/-- So the two readings of the low bits are one number. -/
theorem low_value (p : BitVec 8) :
    FloatOps.sitofp (F := Ideal) .bf16 (Scalar.select (IntOp.cmpi .sge (BitVec.setWidth 8 (IntOp.andi (BitVec.setWidth 32 p) 15#32)) 8#8)
        (IntOp.subi (BitVec.setWidth 8 (IntOp.andi (BitVec.setWidth 32 p) 15#32)) 16#8) (BitVec.setWidth 8 (IntOp.andi (BitVec.setWidth 32 p) 15#32)))
      = FloatOps.sitofp (F := Ideal) .bf16 (IntOp.subi (IntOp.xori (IntOp.andi (IntOp.shrui .vector (BitVec.setWidth 32 p) (Scalar.muli 4#32 0#32)) 15#32) 8#32) 8#32) :=
  congrArg (fun z : ℤ => ((z : ℝ) : EReal)) (low_code p)

/-- So are the two readings of the high bits. -/
theorem high_value (p : BitVec 8) :
    FloatOps.sitofp (F := Ideal) .bf16 (Scalar.select (IntOp.cmpi .sge (BitVec.setWidth 8 (IntOp.shrsi .vector (BitVec.setWidth 32 p) 4#32)) 8#8)
        (IntOp.subi (BitVec.setWidth 8 (IntOp.shrsi .vector (BitVec.setWidth 32 p) 4#32)) 16#8)
        (BitVec.setWidth 8 (IntOp.shrsi .vector (BitVec.setWidth 32 p) 4#32)))
      = FloatOps.sitofp (F := Ideal) .bf16 (IntOp.subi (IntOp.xori (IntOp.andi (IntOp.shrui .vector (BitVec.setWidth 32 p) (Scalar.muli 4#32 1#32)) 15#32) 8#32) 8#32) :=
  congrArg (fun z : ℤ => ((z : ℝ) : EReal)) (high_code p)

end Cert.Column

end
-- ==== Proof.Value.RefPay.lean ====
module

public import proofs.«01_k».proof.Proof.Gen.ReferenceIdeal.Skeleton
public import proofs.«01_k».proof.Proof.Value.Layout
public import proofs.«01_k».proof.Proof.Value.Exponent
public import proofs.«01_k».proof.Proof.Value.Weight
public import proofs.«01_k».proof.Proof.Value.RefBits
public import proofs.«01_k».proof.Proof.Value.Nibble

@[expose] public section

set_option maxRecDepth 65536

noncomputable section

/-! The reference body's results at an index. -/

namespace Cert.ReferenceIdeal.Value

open Cert.ReferenceIdeal Cert.ReferenceIdeal.Gen Idealize.ShloMosaic Cert.Scale Cert.Layout Cert.KernelIdeal.Weight

variable [Cert.ReferenceIdeal.Facts] (x : Vec Ideal S32768x7168 .bf16)

/-- The rows' largest magnitudes. -/
def big : FVec Ideal S32768x1 .f32 :=
  shapeCast S32768x1 (multiReduction (F := Ideal) .maximumf [1] S32768 (absf (k0_pay1 x)) 0xFF800000#32 Facts₀.reduces_S32768x7168_S32768 (.inl rfl) rfl) Facts₀.shapeCasts_S32768_S32768x1

/-- The magnitude of an element. -/
theorem abs_apply (r : Fin 32768) (k : Fin 7168) : absf (k0_pay1 (F := Ideal) x) (ix2 r k) = max (x (ix2 r k)) (-(x (ix2 r k))) := by
  unfold k0_pay1
  rw [shapeCast_self]
  rfl

/-- A row's largest magnitude. -/
theorem big_apply (r : Fin 32768) (u : Fin 1) : big x (ix2 r u) = rowMax fun k : Fin 7168 => x (ix2 r k) := by
  unfold big
  refine (castCol _ _ r u).trans ?_
  refine (maxRow _ _ _ _ _ r).trans ?_
  unfold rowMax
  rw [bot_f32]
  exact Finset.fold_congr fun k _ => abs_apply x r k

/-- The powers of two that the scales are counted against. -/
def powers : FVec Ideal S1x277 .f32 :=
  exp2 (sitofp (F := Ideal) .f32 (subi (iota .tc S1x277 32 [1] Facts₀.iota_S1x277_d1_w32) (broadcast S1x277 149#32)))

/-- Which powers of two do not pass a scale. -/
def passed (a : FVec Ideal S32768x1 .f32) : IVec S32768x277 32 :=
  extui 32 (cmpf .oge (broadcastTo S32768x277 (mulf a (broadcast S32768x1 (Scalar.ofBits (F := Ideal) .f32 0x3B124925#32))) Facts₀.broadcasts_S32768x1_S32768x277)
    (broadcastTo S32768x277 powers Facts₀.broadcasts_S1x277_S32768x277)) Facts₀.natLt_1_32

/-- The exponents of the scales. -/
theorem pay2_eq : k0_pay2 (F := Ideal) x =
    select (cmpf .oeq (big x) (broadcast S32768x1 (Scalar.ofBits (F := Ideal) .f32 0x00000000#32))) (broadcast S32768x1 0#32)
      (subi (shapeCast S32768x1 (multiReductionI .add [1] S32768 (passed (big x)) 0#32 Facts₀.reduces_S32768x277_S32768 rfl) Facts₀.shapeCasts_S32768_S32768x1)
        (broadcast S32768x1 149#32)) := rfl

/-- A power of two that a scale is counted against. -/
theorem powers_apply (k : Fin 277) :
    powers (ix2 0 k) = Ideal.exp2 (((IntOp.subi (BitVec.ofNat 32 k.val) 149#32).toInt : ℝ) : EReal) := by
  pointwise [powers]
  rfl

/-- Whether a power of two does not pass a scale. -/
theorem passed_apply (a : FVec Ideal S32768x1 .f32) (r : Fin 32768) (k : Fin 277) :
    passed a (ix2 r k) = (Ideal.cmp .oge (a (ix2 r 0) * third) (powers (ix2 0 k))).setWidth 32 := by
  generalize hp : powers = p
  unfold passed
  rw [hp]
  pointwise
  rfl

/-- The number of the powers of two that do not pass a scale. -/
theorem count_apply (a : FVec Ideal S32768x1 .f32) (r : Fin 32768) (u : Fin 1) :
    shapeCast S32768x1 (multiReductionI .add [1] S32768 (passed a) 0#32 Facts₀.reduces_S32768x277_S32768 rfl) Facts₀.shapeCasts_S32768_S32768x1 (ix2 r u)
      = Scale.count (a (ix2 r 0) * third) := by
  refine (castCol _ _ r u).trans ?_
  refine (addRow _ _ _ _ r).trans ?_
  unfold Scale.count
  exact Finset.fold_congr fun k _ => (passed_apply a r k).trans (by rw [powers_apply])

/-- The choice of an exponent at an index. -/
theorem choice_apply (a : FVec Ideal S32768x1 .f32) (s : IVec S32768x1 32) (i : S32768x1.Idx) :
    select (cmpf .oeq a (broadcast S32768x1 (Scalar.ofBits (F := Ideal) .f32 0x00000000#32))) (broadcast S32768x1 0#32)
      (subi s (broadcast S32768x1 149#32)) i
      = Scalar.select (Ideal.cmp .oeq (a i) (Ideal.ofBits .f32 0#32)) 0#32 (IntOp.subi (s i) 149#32) := rfl

/-- The exponent by counting, as it is defined. -/
theorem rexp_eq (v : EReal) :
    rexp v = Scalar.select (Ideal.cmp .oeq v (Ideal.ofBits .f32 0#32)) 0#32 (IntOp.subi (Scale.count (v * third)) 149#32) := by
  unfold rexp
  generalize Scale.count (v * third) = n
  rfl

/-- The exponent of a row's scale. -/
theorem rexp_apply (r : Fin 32768) (u : Fin 1) : k0_pay2 (F := Ideal) x (ix2 r u) = rexp (rowMax fun k : Fin 7168 => x (ix2 r k)) := by
  obtain rfl : u = 0 := Subsingleton.elim _ _
  refine (congrFun (pay2_eq x) (ix2 r 0)).trans ((choice_apply _ _ _).trans ?_)
  rw [count_apply, big_apply]
  exact (rexp_eq _).symm

/-- A row's scale. -/
theorem scale_apply (r : Fin 32768) (u : Fin 1) : k0_pay3 (F := Ideal) x (ix2 r u) = two (rexp (rowMax fun k : Fin 7168 => x (ix2 r k))) := by
  rw [← rexp_apply x r u]
  unfold k0_pay3
  generalize k0_pay2 (F := Ideal) x = e
  rfl

/-- A code. -/
theorem code_apply (r : Fin 32768) (k : Fin 7168) :
    k0_pay4 (F := Ideal) x (ix2 r k) = min (Ideal.ofBits .f32 0x43E00000#32) (max (Ideal.ofBits .f32 0xC3E00000#32)
      (x (ix2 r k) * two (IntOp.subi 0#32 (rexp (rowMax fun k : Fin 7168 => x (ix2 r k)))))) := by
  rw [← rexp_apply x r 0]
  unfold k0_pay4
  generalize k0_pay2 (F := Ideal) x = e
  pointwise [k0_pay1]
  rfl

/-- An element of the product. -/
theorem prod_apply (s : FVec Ideal S32768x1 .f32) (a : FVec Ideal S32768x7168 .fp8e4m3) (p : Vec Ideal S7168x5120 .i8)
    (g : Vec Ideal S56x10240 .f32) (w : Vec Ideal S1x10240 .f32) (r : Fin 32768) (n : Fin 10240) :
    k0_pay5 (F := Ideal) s a p g w (ix2 r n) = (∑ k : Fin 7168, a (ix2 r k) * (codeAt p k n * g (ix2 (group k) n))) * s (ix2 r 0) * w (ix2 0 n) := by
  pointwise [k0_pay5]
  congr 2
  split_ifs with h h1
  · refine Finset.sum_congr rfl fun k _ => ?_
    have e1 : n.val / 5120 = 0 := by omega
    have e2 : n.val % 5120 = n.val := by omega
    unfold codeAt half nib
    simp only [e1, e2]
    rw [← Cert.Column.low_value]
    rfl
  · refine Finset.sum_congr rfl fun k _ => ?_
    have e1 : n.val / 5120 = 1 := by omega
    have e2 : n.val % 5120 = n.val - 5120 := by omega
    have e3 : 5120 + (n.val - 5120) = n.val := by omega
    unfold codeAt half nib
    simp only [e1, e2, e3]
    rw [← Cert.Column.high_value]
    rfl
  · exact absurd rfl h1

end Cert.ReferenceIdeal.Value

end
-- ==== Proof.Value.RefValue.lean ====
module

public import proofs.«01_k».proof.Proof.Gen.ReferenceIdeal.Frame
public import proofs.«01_k».proof.Proof.Value.RefPay
public import Idealize.ShloMosaic.Lib.Pipeline.ValueKit

@[expose] public section

set_option maxRecDepth 16384

noncomputable section

/-! What the reference leaves in its results, from its arguments. -/

namespace Cert.ReferenceIdeal.Value

open Cert.ReferenceIdeal Cert.ReferenceIdeal.Gen Idealize.ShloMosaic Idealize.ShloMosaic.TcCoe Idealize.SL.Sem
open Idealize.ShloMosaic.Pipeline (Dat)
open Cert.Scale Cert.KernelIdeal.Weight

/-- The codes of all rows. -/
def codesOf (X : FVec Ideal S32768x7168 .bf16) : FVec Ideal S32768x7168 .fp8e4m3 := fun j =>
  min (Ideal.ofBits .f32 0x43E00000#32) (max (Ideal.ofBits .f32 0xC3E00000#32)
    (X j * two (IntOp.subi 0#32 (rexp (rowMax fun k : Fin 7168 => X (ix2 (j 0) k))))))

/-- The scales of all rows. -/
def scalesOf (X : FVec Ideal S32768x7168 .bf16) : FVec Ideal S32768x1 .f32 := fun j =>
  two (rexp (rowMax fun k : Fin 7168 => X (ix2 (j 0) k)))

/-- The body's array of codes. -/
theorem pay4_eq (X : FVec Ideal S32768x7168 .bf16) : k0_pay4 (F := Ideal) X = codesOf X := by
  funext j
  rw [eq_ix2 j]
  exact code_apply X _ _

/-- The body's array of scales. -/
theorem pay3_eq (X : FVec Ideal S32768x7168 .bf16) : k0_pay3 (F := Ideal) X = scalesOf X := by
  funext j
  rw [eq_ix2 j]
  exact scale_apply X _ _

/-- The body's product. -/
theorem pay5_eq (s : FVec Ideal S32768x1 .f32) (a : FVec Ideal S32768x7168 .fp8e4m3) (p : Vec Ideal S7168x5120 .i8)
    (g : Vec Ideal S56x10240 .f32) (w : Vec Ideal S1x10240 .f32) : k0_pay5 (F := Ideal) s a p g w = wideOf a p g s w := by
  funext j
  rw [eq_ix2 j]
  exact prod_apply s a p g w _ _

/-- The rows of the first argument. -/
def rows (x : FVec Ideal S4x8192x7168 .bf16) : FVec Ideal S32768x7168 .bf16 := shapeCast S32768x7168 x Facts₀.shapeCasts_S4x8192x7168_S32768x7168

/-- The last argument as a row. -/
def cols (w : FVec Ideal S10240 .f32) : FVec Ideal S1x10240 .f32 := shapeCast S1x10240 w Facts₀.shapeCasts_S10240_S1x10240

variable (m : (ℓ : Loc nD τ sig) → Buf (Elt Ideal) ℓ) (ρ : Dev nD → PrngReg) (c : Dev nD)

/-- The arguments. -/
abbrev arg0 : FVec Ideal S4x8192x7168 .bf16 := m ((c : Thread nD τ).loc main_arg0)
/-- The second. -/
abbrev arg1 : Vec Ideal S7168x5120 .i8 := m ((c : Thread nD τ).loc main_arg1)
/-- The third. -/
abbrev arg2 : Vec Ideal S56x10240 .f32 := m ((c : Thread nD τ).loc main_arg2)
/-- The fourth. -/
abbrev arg3 : FVec Ideal S10240 .f32 := m ((c : Thread nD τ).loc main_arg3)

/-- The array of rows that the body is given. -/
theorem V_rows : V m c main_v0 = rows (arg0 m c) := by
  unfold V
  rw [StableHlo.after_cons, StableHlo.after_cons, StableHlo.after_nil, StableHlo.reshape_result_ne, StableHlo.reshape_result]
  · rfl
  · decide

/-- The row of column scales that the body is given. -/
theorem V_cols : V m c main_v1 = cols (arg3 m c) := by
  unfold V
  rw [StableHlo.after_cons, StableHlo.after_cons, StableHlo.after_nil, StableHlo.reshape_result, StableHlo.reshape_result_ne]
  · rfl
  · decide

/-- The body's loads are whole blocks. -/
theorem ld0 (x : Vec Ideal S32768x7168 .bf16) : View.ld x r0_0 = x := View.ld_unit_zero (funext fun a => by fin_cases a <;> rfl) _ _
/-- The body's loads are whole blocks. -/
theorem ld2 (x : Vec Ideal S7168x5120 .i8) : View.ld x r0_2 = x := View.ld_unit_zero (funext fun a => by fin_cases a <;> rfl) _ _
/-- The body's loads are whole blocks. -/
theorem ld3 (x : Vec Ideal S56x10240 .f32) : View.ld x r0_3 = x := View.ld_unit_zero (funext fun a => by fin_cases a <;> rfl) _ _
/-- The body's loads are whole blocks. -/
theorem ld4 (x : Vec Ideal S1x10240 .f32) : View.ld x r0_4 = x := View.ld_unit_zero (funext fun a => by fin_cases a <;> rfl) _ _

/-- Where each window's block sits. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The block of rows is the array. -/
theorem iblk0 (t : Fin cfg0.N) : iblk m c 0 t = rows (arg0 m c) := by
  rw [← V_rows]
  funext j
  blk_ext [iblk, idx t]
/-- The block of packed weights is the array. -/
theorem iblk1 (t : Fin cfg0.N) : iblk m c 1 t = arg1 m c := by
  refine Eq.trans ?_ (V_main_arg1 m c)
  funext j
  blk_ext [iblk, idx t]
/-- The block of group scales is the array. -/
theorem iblk2 (t : Fin cfg0.N) : iblk m c 2 t = arg2 m c := by
  refine Eq.trans ?_ (V_main_arg2 m c)
  funext j
  blk_ext [iblk, idx t]
/-- The block of column scales is the array. -/
theorem iblk3 (t : Fin cfg0.N) : iblk m c 3 t = cols (arg3 m c) := by
  rw [← V_cols]
  funext j
  blk_ext [iblk, idx t]

/-- The product. -/
theorem out_y : (dats m 0 c).arrAt 4 cfg0.N = wideOf (codesOf (rows (arg0 m c))) (arg1 m c) (arg2 m c) (scalesOf (rows (arg0 m c))) (cols (arg3 m c)) := by
  refine (dats m 0 c).arrAt_eq_of_after_last 4 t0_0 (by decide +kernel) _ fun j => ?_
  blk_simp
  rw [after0_4, iblk0, iblk1, iblk2, iblk3]
  frame_out
  rw [pay3_eq, pay4_eq, pay5_eq]
  blk_ext [idx t0_0]

/-- The codes. -/
theorem out_codes : (dats m 0 c).arrAt 5 cfg0.N = codesOf (rows (arg0 m c)) := by
  refine (dats m 0 c).arrAt_eq_of_after_last 5 t0_0 (by decide +kernel) _ fun j => ?_
  blk_simp
  rw [after0_5, iblk0, iblk1, iblk2, iblk3]
  frame_out
  rw [pay4_eq]
  blk_ext [idx t0_0]

/-- The scales. -/
theorem out_scales : (dats m 0 c).arrAt 6 cfg0.N = scalesOf (rows (arg0 m c)) := by
  refine (dats m 0 c).arrAt_eq_of_after_last 6 t0_0 (by decide +kernel) _ fun j => ?_
  blk_simp
  rw [after0_6, iblk0, iblk1, iblk2, iblk3]
  frame_out
  rw [pay3_eq]
  blk_ext [idx t0_0]

/-- The reference's run. -/
theorem run : θ_run defs (onTc (τ := τ) (main (F := Ideal))) ⟨m, fun _ => 0, ρ⟩ (fun r => ∀ c : Dev nD,
      r.2.mem ((c.tc : Thread nD τ).loc main_v2_0) = wideOf (codesOf (rows (arg0 m c))) (arg1 m c) (arg2 m c) (scalesOf (rows (arg0 m c))) (cols (arg3 m c))
      ∧ r.2.mem ((c.tc : Thread nD τ).loc main_v2_1) = codesOf (rows (arg0 m c))
      ∧ r.2.mem ((c.tc : Thread nD τ).loc main_v2_2) = scalesOf (rows (arg0 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (out_y m c), ((h.1 c).1 5).trans (out_codes m c), ((h.1 c).1 6).trans (out_scales m c),
    h.2 c⟩) (θ_run_and (run_main m ρ) (unchanged m ρ))

end Cert.ReferenceIdeal.Value

end
-- ==== Proof.Value.Rows.lean ====
module

public import proofs.«01_k».proof.Pre_scale_is_normal
public import proofs.«01_k».proof.Proof.Value.RefBits
public import proofs.«01_k».proof.Proof.Value.Layout
public import proofs.«01_k».proof.Proof.Value.Exponent
public import Idealize.ShloMosaic.Lib.ReduceAll
public import Idealize.ShloMosaic.Lib.WordArith

@[expose] public section

set_option maxRecDepth 65536

noncomputable section

/-! What the precondition says of every row. -/

namespace Cert.Rows

open Cert.Pre_scale_is_normal Idealize.ShloMosaic Cert.Scale

variable [Cert.Pre_scale_is_normal.Facts]

/-- The rows' largest magnitudes. -/
def big (x : FVec Ideal S4x8192x7168 .bf16) : FVec Ideal S4x8192 .f32 :=
  Host.reduce FloatOps.maximumf (Host.absf (extf (F := Ideal) .f32 x Facts.bitsLt_bf16_f32)) (constant (F := Ideal) S_ .f32 0xFF800000#32)
    Facts.reducesTo_S4x8192x7168_S4x8192_d2 Facts.h_S_

/-- The axis that the rows are reduced along. -/
theorem axis : S4x8192x7168.Reduces [2] S4x8192 := by decide

/-- An index of a row with a column put back. -/
theorem lift_eq (b : Fin 4) (s : Fin 8192) (k : Fin 7168) : axis.lift (ix2 b s) k = ix3 b s k := by
  funext d
  apply Fin.ext
  show axis.liftVal (ix2 b s) k.val d = _
  fin_cases d <;> simp [Shape.Reduces.liftVal, ix2, ix3]

/-- A row's largest magnitude. -/
theorem big_apply (x : FVec Ideal S4x8192x7168 .bf16) (b : Fin 4) (s : Fin 8192) :
    big x (ix2 b s) = rowMax fun k : Fin 7168 => x (ix3 b s k) := by
  unfold big
  refine (Host.reduce_eq_fold_single (α := EReal) max _ _ _ axis _ (ix2 b s)).trans ?_
  unfold rowMax
  rw [show constant (F := Ideal) S_ .f32 0xFF800000#32 (Shape.Idx.first Facts.h_S_) = ⊥ from bot_f32]
  refine Finset.fold_congr fun k _ => ?_
  exact congrArg (Host.absf (extf (F := Ideal) .f32 x Facts.bitsLt_bf16_f32)) (lift_eq b s k)

/-- The rows' bits, from their largest magnitudes. -/
def bits (v : FVec Ideal S4x8192 .f32) : IVec S4x8192 1 :=
  ori (cmpf .oeq v (broadcastInDim S4x8192 ![] Facts.bcast_S_S4x8192 (constant (F := Ideal) S_ .f32 0x00000000#32)))
    (andi (cmpf .oge (mulf v (broadcastInDim S4x8192 ![] Facts.bcast_S_S4x8192 (constant (F := Ideal) S_ .f32 0x3B124925#32)))
        (broadcastInDim S4x8192 ![] Facts.bcast_S_S4x8192 (constant (F := Ideal) S_ .f32 0x00800000#32)))
      (cmpf .ole v (broadcastInDim S4x8192 ![] Facts.bcast_S_S4x8192 (constant (F := Ideal) S_ .f32 0x7F7F0000#32))))

/-- The predicate is the conjunction of the rows' bits. -/
theorem fn_eq (a : FVec Ideal S4x8192x7168 .bf16) (p : IVec S7168x5120 8) (g : FVec Ideal S56x10240 .f32) (w : FVec Ideal S10240 .f32) :
    fn (F := Ideal) a p g w = Host.reduce IntOp.andi (bits (big a)) (constantI S_ 1 1#1) Facts.reducesTo_S4x8192_S_d0_1 Facts.h_S_ := rfl

/-- A row's bit. -/
theorem bits_apply (v : FVec Ideal S4x8192 .f32) (i : S4x8192.Idx) :
    bits v i = IntOp.ori (Ideal.cmp .oeq (v i) (Ideal.ofBits .f32 0x00000000#32))
      (IntOp.andi (Ideal.cmp .oge (v i * third) (Ideal.ofBits .f32 0x00800000#32)) (Ideal.cmp .ole (v i) (Ideal.ofBits .f32 0x7F7F0000#32))) := by
  unfold third
  rfl

/-- A comparison that fails is zero. -/
theorem ofBool_false {p : Prop} [Decidable p] (h : ¬ p) : BitVec.ofBool (decide p) = 0#1 := by rw [decide_eq_false h]; rfl

/-- A disjunction that is one. -/
theorem or_one : ∀ a b c : BitVec 1, IntOp.ori a (IntOp.andi b c) = 1#1 → a = 1#1 ∨ (b = 1#1 ∧ c = 1#1) := by decide

instance : Subsingleton S_.Idx := ⟨fun a b => funext fun i => i.elim0⟩

/-- Every row is zero or has a normal scale. -/
theorem good (a : FVec Ideal S4x8192x7168 .bf16) (p : IVec S7168x5120 8) (g : FVec Ideal S56x10240 .f32) (w : FVec Ideal S10240 .f32)
    (h : fn (F := Ideal) a p g w = fun _ => 1#1) (b : Fin 4) (s : Fin 8192) : Good (rowMax fun k : Fin 7168 => a (ix3 b s k)) := by
  rw [fn_eq] at h
  have h1 := Host.reduce_andi_all _ _ _ _ (Shape.Idx.first Facts.h_S_) (congrFun h _) (ix2 b s)
  rw [bits_apply, big_apply] at h1
  generalize (rowMax fun k : Fin 7168 => a (ix3 b s k)) = v at h1 ⊢
  unfold Good
  generalize Ideal.ofBits .f32 0x00800000#32 = lo at h1 ⊢
  generalize Ideal.ofBits .f32 0x7F7F0000#32 = hi at h1 ⊢
  rw [Ideal.ofBits_zero_f32] at h1
  rcases or_one _ _ _ h1 with e | ⟨e1, e2⟩
  · left
    by_contra hne
    exact absurd (e.symm.trans (ofBool_false hne)) (by decide)
  · right
    constructor
    · by_contra hne
      exact absurd (e1.symm.trans (ofBool_false hne)) (by decide)
    · by_contra hne
      exact absurd (e2.symm.trans (ofBool_false hne)) (by decide)

end Cert.Rows

end
-- ==== Proof.Value.Equation.lean ====
module

public import proofs.«01_k».proof.Proof.Value.Arrays
public import proofs.«01_k».proof.Proof.Value.RefValue
public import proofs.«01_k».proof.Proof.Value.Rows

@[expose] public section

set_option maxRecDepth 16384

noncomputable section

/-! On rows with normal scales the program's codes and scales are the reference's. -/

namespace Cert.Equation

open Idealize.ShloMosaic Cert.Scale

variable [Cert.Pre_scale_is_normal.Facts]

/-- A row of the first argument. -/
theorem rows_apply (x : FVec Ideal Cert.KernelIdeal.S4x8192x7168 .bf16) (r : Fin 32768) (k : Fin 7168) :
    Cert.KernelIdeal.Arrays.rows x (ix2 r k) = x (ix3 ⟨r.val / 8192, by omega⟩ ⟨r.val % 8192, by omega⟩ k) := by
  pointwise [Cert.KernelIdeal.Arrays.rows]

/-- Every row is zero or has a normal scale. -/
theorem good (x : FVec Ideal Cert.KernelIdeal.S4x8192x7168 .bf16) (p : IVec Cert.KernelIdeal.S7168x5120 8)
    (g : FVec Ideal Cert.KernelIdeal.S56x10240 .f32) (w : FVec Ideal Cert.KernelIdeal.S10240 .f32)
    (h : Cert.Pre_scale_is_normal.fn (F := Ideal) x p g w = fun _ => 1#1) (r : Fin 32768) :
    Good (rowMax fun k : Fin 7168 => Cert.KernelIdeal.Arrays.rows x (ix2 r k)) := by
  rw [show (fun k : Fin 7168 => Cert.KernelIdeal.Arrays.rows x (ix2 r k))
    = fun k => x (ix3 ⟨r.val / 8192, by omega⟩ ⟨r.val % 8192, by omega⟩ k) from funext fun k => rows_apply x r k]
  exact Cert.Rows.good x p g w h _ _

variable (X : FVec Ideal Cert.KernelIdeal.S32768x7168 .bf16) (h : ∀ r : Fin 32768, Good (rowMax fun k : Fin 7168 => X (ix2 r k)))

include h

/-- The codes agree. -/
theorem codes_eq : Cert.KernelIdeal.QuantizeValue.codesOf X = Cert.ReferenceIdeal.Value.codesOf X := by
  funext j
  unfold Cert.KernelIdeal.QuantizeValue.codesOf Cert.ReferenceIdeal.Value.codesOf
  rw [inv_eq _ (h (j 0))]

/-- The scales agree. -/
theorem scales_eq : Cert.KernelIdeal.QuantizeValue.scalesOf X = Cert.ReferenceIdeal.Value.scalesOf X := by
  funext j
  unfold Cert.KernelIdeal.QuantizeValue.scalesOf Cert.ReferenceIdeal.Value.scalesOf
  exact scale_eq _ (h (j 0))

end Cert.Equation

end
-- ==== Proof.lean ====
module

public import proofs.«01_k».proof.Defs
public import proofs.«01_k».proof.Proof.Kernel.Run
public import proofs.«01_k».proof.Proof.KernelIdeal.Run
public import proofs.«01_k».proof.Proof.Gen.ReferenceIdeal.Frame
public import proofs.«01_k».proof.Proof.Value.Arrays
public import proofs.«01_k».proof.Proof.Value.RefValue
public import proofs.«01_k».proof.Proof.Value.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel as printed terminates without a fault, its arguments unchanged, every counter at zero. -/
theorem frame_kernel : Cert.quiescent_Kernel := fun m g _ =>
  (θ_run Cert.Kernel.defs _ _).mono (fun _ h => ⟨fun c => (h.1 c).2.2.2, h.2⟩) (Cert.Kernel.Run.run m g)

/-- So does the idealised kernel. -/
theorem frame_kernelIdeal : Cert.quiescent_KernelIdeal := fun m g _ =>
  (θ_run Cert.KernelIdeal.defs _ _).mono (fun _ h => ⟨fun c => (h.1 c).2.2.2, h.2⟩) (Cert.KernelIdeal.Run.run m g)

/-- So does the reference. -/
theorem frame_reference : Cert.quiescent_ReferenceIdeal := fun m g _ => Cert.ReferenceIdeal.Gen.frame m g

/-- The shape facts that the precondition takes. -/
theorem preFacts : Cert.Pre_scale_is_normal.Facts where
  bitsLt_bf16_f32 := by decide
  reducesTo_S4x8192x7168_S4x8192_d2 := by decide
  h_S_ := by decide
  bcast_S_S4x8192 := by decide
  reducesTo_S4x8192_S_d0_1 := by decide

/-- From equal arguments, each token's scale normal, the idealised kernel and the reference leave equal results. -/
theorem algebraic : Cert.algebraic_KernelIdeal_ReferenceIdeal_pre_scale_is_normal (hPre_scale_is_normal := preFacts) := by
  intro m g m' g' hp ha
  haveI := preFacts
  have hg := fun c => Cert.Equation.good _ _ _ _ (hp c)
  refine ⟨fun c => Cert.KernelIdeal.Run.VZ m c Cert.KernelIdeal.main_v8, fun c => Cert.KernelIdeal.Run.VZ m c Cert.KernelIdeal.main_v1_0,
    fun c => Cert.KernelIdeal.Run.VZ m c Cert.KernelIdeal.main_v1_1,
    (θ_run Cert.KernelIdeal.defs _ _).mono (fun _ h => h.1) (Cert.KernelIdeal.Run.run m g),
    (θ_run Cert.ReferenceIdeal.defs _ _).mono (fun r h c => ?_) (Cert.ReferenceIdeal.Value.run m' g')⟩
  have e0 : Cert.ReferenceIdeal.Value.arg0 m' c = Cert.KernelIdeal.Arrays.arg0 m c := (ha c).1
  have e1 : Cert.ReferenceIdeal.Value.arg1 m' c = Cert.KernelIdeal.Arrays.arg1 m c := (ha c).2.1
  have e2 : Cert.ReferenceIdeal.Value.arg2 m' c = Cert.KernelIdeal.Arrays.arg2 m c := (ha c).2.2.1
  have e3 : Cert.ReferenceIdeal.Value.arg3 m' c = Cert.KernelIdeal.Arrays.arg3 m c := (ha c).2.2.2
  have hc := Cert.Equation.codes_eq _ (hg c)
  have hs := Cert.Equation.scales_eq _ (hg c)
  have hr := h c
  rw [e0, e1, e2, e3] at hr
  refine ⟨hr.1.trans ?_, hr.2.1.trans ?_, hr.2.2.1.trans ?_, hr.2.2.2⟩
  · refine Eq.trans ?_ (Cert.KernelIdeal.Arrays.VZ_out m c).symm
    exact (congrArg₂ (fun a s => Cert.KernelIdeal.Weight.wideOf a (Cert.KernelIdeal.Arrays.arg1 m c) (Cert.KernelIdeal.Arrays.arg2 m c) s
      (Cert.KernelIdeal.Arrays.cols (Cert.KernelIdeal.Arrays.arg3 m c))) hc hs).symm
  · exact (hc.symm).trans (Cert.KernelIdeal.Arrays.VZ_codes m c).symm
  · exact (hs.symm).trans (Cert.KernelIdeal.Arrays.VZ_scales m c).symm

theorem claim : Cert.Claim :=
  ⟨Cert.Kernel.Gen.facts, Cert.KernelIdeal.Gen.facts, Cert.ReferenceIdeal.Gen.facts, preFacts,
    frame_kernel, frame_kernelIdeal, fun m g _ => frame_kernelIdeal m g trivial, frame_reference, fun m g _ => frame_reference m g trivial,
    IdealRules.sign_bit.statement Cert.KernelIdeal.S56x256 .f32, algebraic⟩

end Cert.Proof

end
